-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![2048]⟩ (Layout.meshBlock [2, 4, 4] ![[2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![8, 512, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![8, 1024, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![2048, 512]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S512x1 : Shape := ⟨2, ![512, 1]⟩
abbrev S8 : Shape := ⟨1, ![8]⟩
abbrev S1x8 : Shape := ⟨2, ![1, 8]⟩
abbrev S512x8 : Shape := ⟨2, ![512, 8]⟩
abbrev S_ : Shape := ⟨0, ![]⟩

class Facts : Prop where
  bcast_S512_S512x1_0 : S512.BroadcastsInDim S512x1 (![0] : Fin 1 → Fin S512x1.rank)
  bcast_S8_S1x8_1 : S8.BroadcastsInDim S1x8 (![1] : Fin 1 → Fin S1x8.rank)
  bcast_S512x1_S512x8_0_1 : S512x1.BroadcastsInDim S512x8 (![0, 1] : Fin 2 → Fin S512x8.rank)
  bcast_S1x8_S512x8_0_1 : S1x8.BroadcastsInDim S512x8 (![0, 1] : Fin 2 → Fin S512x8.rank)
  natLt_1_32 : 1 < 32
  reducesTo_S512x8_S8_d0 : S512x8.ReducesTo [0] S8
  h_S_ : 0 < S_.numel
  bcast_S_S512 : S_.BroadcastsInDim S512 (![] : Fin 0 → Fin S512.rank)
  reducesTo_S512_S_d0 : S512.ReducesTo [0] S_
  bcast_S_S8 : S_.BroadcastsInDim S8 (![] : Fin 0 → Fin S8.rank)
  reducesTo_S8_S_d0 : S8.ReducesTo [0] S_

variable [Facts]

def fn {F : FTy → Type} [FloatOps F] (main_arg0 : FVec F S512x512 .f32) (main_arg1 : IVec S512 32) (main_arg2 : FVec F S2x512x1024 .f32) (main_arg3 : FVec F S2x1024x512 .f32) : IVec S_ 1 :=
  let main_v0 : IVec S512x1 32 := broadcastInDim S512x1 ![0] bcast_S512_S512x1_0 main_arg1
  let main_v1 : IVec S8 32 := iotaInDim S8 32 0
  let main_v2 : IVec S1x8 32 := broadcastInDim S1x8 ![1] bcast_S8_S1x8_1 main_v1
  let main_v3 : IVec S512x8 32 := broadcastInDim S512x8 ![0, 1] bcast_S512x1_S512x8_0_1 main_v0
  let main_v4 : IVec S512x8 32 := broadcastInDim S512x8 ![0, 1] bcast_S1x8_S512x8_0_1 main_v2
  let main_v5 : IVec S512x8 1 := cmpi .eq main_v3 main_v4
  let main_v6 : IVec S512x8 32 := (extui 32 · natLt_1_32) main_v5
  let main_c : IVec S_ 32 := constantI S_ 32 0#32
  let main_v7 : IVec S8 32 := (fun x v => Host.reduce IntOp.addi x v reducesTo_S512x8_S8_d0 h_S_) main_v6 main_c
  let main_c_0 : IVec S_ 32 := constantI S_ 32 8#32
  let main_v8 : IVec S512 32 := broadcastInDim S512 ![] bcast_S_S512 main_c_0
  let main_v9 : IVec S512 1 := cmpi .ne main_arg1 main_v8
  let main_c_1 : IVec S_ 1 := constantI S_ 1 1#1
  let main_v10 : IVec S_ 1 := (fun x v => Host.reduce IntOp.andi x v reducesTo_S512_S_d0 h_S_) main_v9 main_c_1
  let main_c_2 : IVec S_ 32 := constantI S_ 32 80#32
  let main_v11 : IVec S8 32 := broadcastInDim S8 ![] bcast_S_S8 main_c_2
  let main_v12 : IVec S8 1 := cmpi .sle main_v7 main_v11
  let main_c_3 : IVec S_ 1 := constantI S_ 1 1#1
  let main_v13 : IVec S_ 1 := (fun x v => Host.reduce IntOp.andi x v reducesTo_S8_S_d0 h_S_) main_v12 main_c_3
  let main_v14 : IVec S_ 1 := andi main_v10 main_v13
  main_v14
-- ==== Pre_fits_ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S_ : Shape := ⟨0, ![]⟩

class Facts : Prop where
  bcast_S2048_S2048x1_0 : S2048.BroadcastsInDim S2048x1 (![0] : Fin 1 → Fin S2048x1.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  natLt_1_32 : 1 < 32
  reducesTo_S2048x8_S8_d0 : S2048x8.ReducesTo [0] S8
  h_S_ : 0 < S_.numel
  bcast_S_S2048 : S_.BroadcastsInDim S2048 (![] : Fin 0 → Fin S2048.rank)
  reducesTo_S2048_S_d0 : S2048.ReducesTo [0] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2048x512 .f32) (main_arg1 : IVec S2048 32) (main_arg2 : FVec F S8x512x1024 .f32) (main_arg3 : FVec F S8x1024x512 .f32) : IVec S_ 1 :=
  let main_v0 : IVec S2048x1 32 := broadcastInDim S2048x1 ![0] bcast_S2048_S2048x1_0 main_arg1
  let main_v1 : IVec S8 32 := iotaInDim S8 32 0
  let main_v2 : IVec S1x8 32 := broadcastInDim S1x8 ![1] bcast_S8_S1x8_1 main_v1
  let main_v3 : IVec S2048x8 32 := broadcastInDim S2048x8 ![0, 1] bcast_S2048x1_S2048x8_0_1 main_v0
  let main_v4 : IVec S2048x8 32 := broadcastInDim S2048x8 ![0, 1] bcast_S1x8_S2048x8_0_1 main_v2
  let main_v5 : IVec S2048x8 1 := cmpi .eq main_v3 main_v4
  let main_v6 : IVec S2048x8 32 := (extui 32 · natLt_1_32) main_v5
  let main_c : IVec S_ 32 := constantI S_ 32 0#32
  let main_v7 : IVec S8 32 := (fun x v => Host.reduce IntOp.addi x v reducesTo_S2048x8_S8_d0 h_S_) main_v6 main_c
  let main_c_0 : IVec S_ 32 := constantI S_ 32 8#32
  let main_v8 : IVec S2048 32 := broadcastInDim S2048 ![] bcast_S_S2048 main_c_0
  let main_v9 : IVec S2048 1 := cmpi .ne main_arg1 main_v8
  let main_c_1 : IVec S_ 1 := constantI S_ 1 1#1
  let main_v10 : IVec S_ 1 := (fun x v => Host.reduce IntOp.andi x v reducesTo_S2048_S_d0 h_S_) main_v9 main_c_1
  let main_c_2 : IVec S_ 32 := constantI S_ 32 320#32
  let main_v11 : IVec S8 32 := broadcastInDim S8 ![] bcast_S_S8 main_c_2
  let main_v12 : IVec S8 1 := cmpi .sle main_v7 main_v11
  let main_c_3 : IVec S_ 1 := constantI S_ 1 1#1
  let main_v13 : IVec S_ 1 := (fun x v => Host.reduce IntOp.andi x v reducesTo_S8_S_d0 h_S_) main_v12 main_c_3
  let main_v14 : IVec S_ 1 := andi main_v10 main_v13
  main_v14
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S4x160x512 : Shape := ⟨3, ![4, 160, 512]⟩
abbrev S160x512 : Shape := ⟨2, ![160, 512]⟩
abbrev S640x512 : Shape := ⟨2, ![640, 512]⟩
abbrev S4 : Shape := ⟨1, ![4]⟩
abbrev S4x2 : Shape := ⟨2, ![4, 2]⟩
abbrev S_ : Shape := ⟨0, ![]⟩
abbrev S512x1 : Shape := ⟨2, ![512, 1]⟩
abbrev S512x8 : Shape := ⟨2, ![512, 8]⟩
abbrev S512x160 : Shape := ⟨2, ![512, 160]⟩
abbrev S1x160x512 : Shape := ⟨3, ![1, 160, 512]⟩
abbrev S1 : Shape := ⟨1, ![1]⟩
abbrev S80x512 : Shape := ⟨2, ![80, 512]⟩
abbrev S1x512x1024 : Shape := ⟨3, ![1, 512, 1024]⟩
abbrev S512x1024 : Shape := ⟨2, ![512, 1024]⟩
abbrev S80x1024 : Shape := ⟨2, ![80, 1024]⟩
abbrev S1x1024x512 : Shape := ⟨3, ![1, 1024, 512]⟩
abbrev S1024x512 : Shape := ⟨2, ![1024, 512]⟩
abbrev S1x80x512 : Shape := ⟨3, ![1, 80, 512]⟩
abbrev S1x1 : Shape := ⟨2, ![1, 1]⟩

abbrev nBuf : Space → Nat
  | .hbm => 5
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S2x512x1024, .f32⟩
  | .hbm, ⟨3, _⟩ => ⟨S2x1024x512, .f32⟩
  | .hbm, ⟨4, _⟩ => ⟨S512x512, .f32⟩
  | .local _ .vmem, ⟨0, _⟩ => ⟨S512x512, .f32⟩
  | .local _ .vmem, ⟨1, _⟩ => ⟨S512, .i32⟩
  | .local _ .vmem, ⟨2, _⟩ => ⟨S2x512x1024, .f32⟩
  | .local _ .vmem, ⟨3, _⟩ => ⟨S2x1024x512, .f32⟩
  | .local _ .vmem, ⟨4, _⟩ => ⟨S512x512, .f32⟩
  | .local _ .vmem, ⟨5, _⟩ => ⟨S4x160x512, .bf16⟩
  | .local _ .vmem, ⟨6, _⟩ => ⟨S160x512, .bf16⟩
  | .local _ .vmem, ⟨7, _⟩ => ⟨S4x160x512, .bf16⟩
  | .local _ .vmem, ⟨8, _⟩ => ⟨S4x160x512, .bf16⟩
  | .local _ .vmem, ⟨9, _⟩ => ⟨S640x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .ne v8 c0_i32
  let v11 : BitVec 32 := Scalar.extui v10
  let c0_i32_2 : BitVec 32 := 0#32
  let v12 : BitVec 1 := Scalar.cmpi .ne v11 c0_i32_2
  v12

def k0_dev1 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v58 : BitVec 32 := Scalar.muli v2 c16_i32_22
  let v59 : BitVec 32 := Scalar.addi c0_i32_23 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v60 : BitVec 32 := Scalar.muli v5 c4_i32_24
  let v61 : BitVec 32 := Scalar.addi v59 v60
  let c0_i32_21 : BitVec 32 := 0#32
  let c1_i32_25 : BitVec 32 := 1#32
  let v62 : BitVec 32 := Scalar.muli c0_i32_21 c1_i32_25
  let v63 : BitVec 32 := Scalar.addi v61 v62
  v63.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v13 : BitVec 1 := Scalar.cmpi .ne v8 c1_i32_3
  let v14 : BitVec 32 := Scalar.extui v13
  let c0_i32_4 : BitVec 32 := 0#32
  let v15 : BitVec 1 := Scalar.cmpi .ne v14 c0_i32_4
  v15

def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v58 : BitVec 32 := Scalar.muli v2 c16_i32_22
  let v59 : BitVec 32 := Scalar.addi c0_i32_23 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v60 : BitVec 32 := Scalar.muli v5 c4_i32_24
  let v61 : BitVec 32 := Scalar.addi v59 v60
  let c1_i32_21 : BitVec 32 := 1#32
  let c1_i32_25 : BitVec 32 := 1#32
  let v62 : BitVec 32 := Scalar.muli c1_i32_21 c1_i32_25
  let v63 : BitVec 32 := Scalar.addi v61 v62
  v63.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v16 : BitVec 1 := Scalar.cmpi .ne v8 c2_i32_5
  let v17 : BitVec 32 := Scalar.extui v16
  let c0_i32_6 : BitVec 32 := 0#32
  let v18 : BitVec 1 := Scalar.cmpi .ne v17 c0_i32_6
  v18

def k0_dev3 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v58 : BitVec 32 := Scalar.muli v2 c16_i32_22
  let v59 : BitVec 32 := Scalar.addi c0_i32_23 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v60 : BitVec 32 := Scalar.muli v5 c4_i32_24
  let v61 : BitVec 32 := Scalar.addi v59 v60
  let c2_i32_21 : BitVec 32 := 2#32
  let c1_i32_25 : BitVec 32 := 1#32
  let v62 : BitVec 32 := Scalar.muli c2_i32_21 c1_i32_25
  let v63 : BitVec 32 := Scalar.addi v61 v62
  v63.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v19 : BitVec 1 := Scalar.cmpi .ne v8 c3_i32
  let v20 : BitVec 32 := Scalar.extui v19
  let c0_i32_7 : BitVec 32 := 0#32
  let v21 : BitVec 1 := Scalar.cmpi .ne v20 c0_i32_7
  v21

def k0_dev4 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v58 : BitVec 32 := Scalar.muli v2 c16_i32_22
  let v59 : BitVec 32 := Scalar.addi c0_i32_23 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v60 : BitVec 32 := Scalar.muli v5 c4_i32_24
  let v61 : BitVec 32 := Scalar.addi v59 v60
  let c3_i32_21 : BitVec 32 := 3#32
  let c1_i32_25 : BitVec 32 := 1#32
  let v62 : BitVec 32 := Scalar.muli c3_i32_21 c1_i32_25
  let v63 : BitVec 32 := Scalar.addi v61 v62
  v63.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_12 : BitVec 32 := 0#32
  let v46 : BitVec 1 := Scalar.cmpi .eq v8 c0_i32_12
  let v47 : BitVec 32 := Scalar.extui v46
  let c0_i32_13 : BitVec 32 := 0#32
  let v48 : BitVec 1 := Scalar.cmpi .ne v47 c0_i32_13
  v48

def k0_dev5 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v72 : BitVec 32 := Scalar.muli v2 c16_i32_30
  let v73 : BitVec 32 := Scalar.addi c0_i32_31 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v74 : BitVec 32 := Scalar.muli v5 c4_i32_32
  let v75 : BitVec 32 := Scalar.addi v73 v74
  let c1_i32_29 : BitVec 32 := 1#32
  let c1_i32_33 : BitVec 32 := 1#32
  let v76 : BitVec 32 := Scalar.muli c1_i32_29 c1_i32_33
  let v77 : BitVec 32 := Scalar.addi v75 v76
  v77.toNat
def k0_dev6 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v100 : BitVec 32 := Scalar.muli v2 c16_i32_48
  let v101 : BitVec 32 := Scalar.addi c0_i32_49 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v102 : BitVec 32 := Scalar.muli v5 c4_i32_50
  let v103 : BitVec 32 := Scalar.addi v101 v102
  let c2_i32_47 : BitVec 32 := 2#32
  let c1_i32_51 : BitVec 32 := 1#32
  let v104 : BitVec 32 := Scalar.muli c2_i32_47 c1_i32_51
  let v105 : BitVec 32 := Scalar.addi v103 v104
  v105.toNat
def k0_dev7 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v128 : BitVec 32 := Scalar.muli v2 c16_i32_66
  let v129 : BitVec 32 := Scalar.addi c0_i32_67 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v130 : BitVec 32 := Scalar.muli v5 c4_i32_68
  let v131 : BitVec 32 := Scalar.addi v129 v130
  let c3_i32_65 : BitVec 32 := 3#32
  let c1_i32_69 : BitVec 32 := 1#32
  let v132 : BitVec 32 := Scalar.muli c3_i32_65 c1_i32_69
  let v133 : BitVec 32 := Scalar.addi v131 v132
  v133.toNat
def k0_dev8 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v208 : BitVec 32 := Scalar.muli v2 c16_i32_139
  let v209 : BitVec 32 := Scalar.addi c0_i32_140 v208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_141 : BitVec 32 := 4#32
  let v210 : BitVec 32 := Scalar.muli v5 c4_i32_141
  let v211 : BitVec 32 := Scalar.addi v209 v210
  let c1_i32_138 : BitVec 32 := 1#32
  let c1_i32_142 : BitVec 32 := 1#32
  let v212 : BitVec 32 := Scalar.muli c1_i32_138 c1_i32_142
  let v213 : BitVec 32 := Scalar.addi v211 v212
  v213.toNat
def k0_dev9 (d0 : Dev nD) : Nat :=
  let c0_i32_169 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_168 : BitVec 32 := 16#32
  let v235 : BitVec 32 := Scalar.muli v2 c16_i32_168
  let v236 : BitVec 32 := Scalar.addi c0_i32_169 v235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_170 : BitVec 32 := 4#32
  let v237 : BitVec 32 := Scalar.muli v5 c4_i32_170
  let v238 : BitVec 32 := Scalar.addi v236 v237
  let c1_i32_167 : BitVec 32 := 1#32
  let c1_i32_171 : BitVec 32 := 1#32
  let v239 : BitVec 32 := Scalar.muli c1_i32_167 c1_i32_171
  let v240 : BitVec 32 := Scalar.addi v238 v239
  v240.toNat
def k0_dev10 (d0 : Dev nD) : Nat :=
  let c0_i32_210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_209 : BitVec 32 := 16#32
  let v274 : BitVec 32 := Scalar.muli v2 c16_i32_209
  let v275 : BitVec 32 := Scalar.addi c0_i32_210 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_211 : BitVec 32 := 4#32
  let v276 : BitVec 32 := Scalar.muli v5 c4_i32_211
  let v277 : BitVec 32 := Scalar.addi v275 v276
  let c2_i32_208 : BitVec 32 := 2#32
  let c1_i32_212 : BitVec 32 := 1#32
  let v278 : BitVec 32 := Scalar.muli c2_i32_208 c1_i32_212
  let v279 : BitVec 32 := Scalar.addi v277 v278
  v279.toNat
def k0_dev11 (d0 : Dev nD) : Nat :=
  let c0_i32_239 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_238 : BitVec 32 := 16#32
  let v301 : BitVec 32 := Scalar.muli v2 c16_i32_238
  let v302 : BitVec 32 := Scalar.addi c0_i32_239 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_240 : BitVec 32 := 4#32
  let v303 : BitVec 32 := Scalar.muli v5 c4_i32_240
  let v304 : BitVec 32 := Scalar.addi v302 v303
  let c2_i32_237 : BitVec 32 := 2#32
  let c1_i32_241 : BitVec 32 := 1#32
  let v305 : BitVec 32 := Scalar.muli c2_i32_237 c1_i32_241
  let v306 : BitVec 32 := Scalar.addi v304 v305
  v306.toNat
def k0_dev12 (d0 : Dev nD) : Nat :=
  let c0_i32_281 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_280 : BitVec 32 := 16#32
  let v340 : BitVec 32 := Scalar.muli v2 c16_i32_280
  let v341 : BitVec 32 := Scalar.addi c0_i32_281 v340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_282 : BitVec 32 := 4#32
  let v342 : BitVec 32 := Scalar.muli v5 c4_i32_282
  let v343 : BitVec 32 := Scalar.addi v341 v342
  let c3_i32_279 : BitVec 32 := 3#32
  let c1_i32_283 : BitVec 32 := 1#32
  let v344 : BitVec 32 := Scalar.muli c3_i32_279 c1_i32_283
  let v345 : BitVec 32 := Scalar.addi v343 v344
  v345.toNat
def k0_dev13 (d0 : Dev nD) : Nat :=
  let c0_i32_310 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_309 : BitVec 32 := 16#32
  let v367 : BitVec 32 := Scalar.muli v2 c16_i32_309
  let v368 : BitVec 32 := Scalar.addi c0_i32_310 v367
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_311 : BitVec 32 := 4#32
  let v369 : BitVec 32 := Scalar.muli v5 c4_i32_311
  let v370 : BitVec 32 := Scalar.addi v368 v369
  let c3_i32_308 : BitVec 32 := 3#32
  let c1_i32_312 : BitVec 32 := 1#32
  let v371 : BitVec 32 := Scalar.muli c3_i32_308 c1_i32_312
  let v372 : BitVec 32 := Scalar.addi v370 v371
  v372.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v49 : BitVec 1 := Scalar.cmpi .eq v8 c1_i32_14
  let v50 : BitVec 32 := Scalar.extui v49
  let c0_i32_15 : BitVec 32 := 0#32
  let v51 : BitVec 1 := Scalar.cmpi .ne v50 c0_i32_15
  v51

def k0_dev14 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v72 : BitVec 32 := Scalar.muli v2 c16_i32_32
  let v73 : BitVec 32 := Scalar.addi c0_i32_33 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v74 : BitVec 32 := Scalar.muli v5 c4_i32_34
  let v75 : BitVec 32 := Scalar.addi v73 v74
  let c0_i32_31 : BitVec 32 := 0#32
  let c1_i32_35 : BitVec 32 := 1#32
  let v76 : BitVec 32 := Scalar.muli c0_i32_31 c1_i32_35
  let v77 : BitVec 32 := Scalar.addi v75 v76
  v77.toNat
def k0_dev15 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v100 : BitVec 32 := Scalar.muli v2 c16_i32_50
  let v101 : BitVec 32 := Scalar.addi c0_i32_51 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v102 : BitVec 32 := Scalar.muli v5 c4_i32_52
  let v103 : BitVec 32 := Scalar.addi v101 v102
  let c2_i32_49 : BitVec 32 := 2#32
  let c1_i32_53 : BitVec 32 := 1#32
  let v104 : BitVec 32 := Scalar.muli c2_i32_49 c1_i32_53
  let v105 : BitVec 32 := Scalar.addi v103 v104
  v105.toNat
def k0_dev16 (d0 : Dev nD) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v128 : BitVec 32 := Scalar.muli v2 c16_i32_68
  let v129 : BitVec 32 := Scalar.addi c0_i32_69 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v130 : BitVec 32 := Scalar.muli v5 c4_i32_70
  let v131 : BitVec 32 := Scalar.addi v129 v130
  let c3_i32_67 : BitVec 32 := 3#32
  let c1_i32_71 : BitVec 32 := 1#32
  let v132 : BitVec 32 := Scalar.muli c3_i32_67 c1_i32_71
  let v133 : BitVec 32 := Scalar.addi v131 v132
  v133.toNat
def k0_dev17 (d0 : Dev nD) : Nat :=
  let c0_i32_138 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_137 : BitVec 32 := 16#32
  let v208 : BitVec 32 := Scalar.muli v2 c16_i32_137
  let v209 : BitVec 32 := Scalar.addi c0_i32_138 v208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_139 : BitVec 32 := 4#32
  let v210 : BitVec 32 := Scalar.muli v5 c4_i32_139
  let v211 : BitVec 32 := Scalar.addi v209 v210
  let c0_i32_136 : BitVec 32 := 0#32
  let c1_i32_140 : BitVec 32 := 1#32
  let v212 : BitVec 32 := Scalar.muli c0_i32_136 c1_i32_140
  let v213 : BitVec 32 := Scalar.addi v211 v212
  v213.toNat
def k0_dev18 (d0 : Dev nD) : Nat :=
  let c0_i32_167 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_166 : BitVec 32 := 16#32
  let v235 : BitVec 32 := Scalar.muli v2 c16_i32_166
  let v236 : BitVec 32 := Scalar.addi c0_i32_167 v235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_168 : BitVec 32 := 4#32
  let v237 : BitVec 32 := Scalar.muli v5 c4_i32_168
  let v238 : BitVec 32 := Scalar.addi v236 v237
  let c0_i32_165 : BitVec 32 := 0#32
  let c1_i32_169 : BitVec 32 := 1#32
  let v239 : BitVec 32 := Scalar.muli c0_i32_165 c1_i32_169
  let v240 : BitVec 32 := Scalar.addi v238 v239
  v240.toNat
def k0_dev19 (d0 : Dev nD) : Nat :=
  let c0_i32_207 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_206 : BitVec 32 := 16#32
  let v274 : BitVec 32 := Scalar.muli v2 c16_i32_206
  let v275 : BitVec 32 := Scalar.addi c0_i32_207 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_208 : BitVec 32 := 4#32
  let v276 : BitVec 32 := Scalar.muli v5 c4_i32_208
  let v277 : BitVec 32 := Scalar.addi v275 v276
  let c2_i32_205 : BitVec 32 := 2#32
  let c1_i32_209 : BitVec 32 := 1#32
  let v278 : BitVec 32 := Scalar.muli c2_i32_205 c1_i32_209
  let v279 : BitVec 32 := Scalar.addi v277 v278
  v279.toNat
def k0_dev20 (d0 : Dev nD) : Nat :=
  let c0_i32_236 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_235 : BitVec 32 := 16#32
  let v301 : BitVec 32 := Scalar.muli v2 c16_i32_235
  let v302 : BitVec 32 := Scalar.addi c0_i32_236 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_237 : BitVec 32 := 4#32
  let v303 : BitVec 32 := Scalar.muli v5 c4_i32_237
  let v304 : BitVec 32 := Scalar.addi v302 v303
  let c2_i32_234 : BitVec 32 := 2#32
  let c1_i32_238 : BitVec 32 := 1#32
  let v305 : BitVec 32 := Scalar.muli c2_i32_234 c1_i32_238
  let v306 : BitVec 32 := Scalar.addi v304 v305
  v306.toNat
def k0_dev21 (d0 : Dev nD) : Nat :=
  let c0_i32_278 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_277 : BitVec 32 := 16#32
  let v340 : BitVec 32 := Scalar.muli v2 c16_i32_277
  let v341 : BitVec 32 := Scalar.addi c0_i32_278 v340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_279 : BitVec 32 := 4#32
  let v342 : BitVec 32 := Scalar.muli v5 c4_i32_279
  let v343 : BitVec 32 := Scalar.addi v341 v342
  let c3_i32_276 : BitVec 32 := 3#32
  let c1_i32_280 : BitVec 32 := 1#32
  let v344 : BitVec 32 := Scalar.muli c3_i32_276 c1_i32_280
  let v345 : BitVec 32 := Scalar.addi v343 v344
  v345.toNat
def k0_dev22 (d0 : Dev nD) : Nat :=
  let c0_i32_307 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_306 : BitVec 32 := 16#32
  let v367 : BitVec 32 := Scalar.muli v2 c16_i32_306
  let v368 : BitVec 32 := Scalar.addi c0_i32_307 v367
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_308 : BitVec 32 := 4#32
  let v369 : BitVec 32 := Scalar.muli v5 c4_i32_308
  let v370 : BitVec 32 := Scalar.addi v368 v369
  let c3_i32_305 : BitVec 32 := 3#32
  let c1_i32_309 : BitVec 32 := 1#32
  let v371 : BitVec 32 := Scalar.muli c3_i32_305 c1_i32_309
  let v372 : BitVec 32 := Scalar.addi v370 v371
  v372.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v52 : BitVec 1 := Scalar.cmpi .eq v8 c2_i32_16
  let v53 : BitVec 32 := Scalar.extui v52
  let c0_i32_17 : BitVec 32 := 0#32
  let v54 : BitVec 1 := Scalar.cmpi .ne v53 c0_i32_17
  v54

def k0_dev23 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v72 : BitVec 32 := Scalar.muli v2 c16_i32_30
  let v73 : BitVec 32 := Scalar.addi c0_i32_31 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v74 : BitVec 32 := Scalar.muli v5 c4_i32_32
  let v75 : BitVec 32 := Scalar.addi v73 v74
  let c1_i32_29 : BitVec 32 := 1#32
  let c1_i32_33 : BitVec 32 := 1#32
  let v76 : BitVec 32 := Scalar.muli c1_i32_29 c1_i32_33
  let v77 : BitVec 32 := Scalar.addi v75 v76
  v77.toNat
def k0_dev24 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v100 : BitVec 32 := Scalar.muli v2 c16_i32_48
  let v101 : BitVec 32 := Scalar.addi c0_i32_49 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v102 : BitVec 32 := Scalar.muli v5 c4_i32_50
  let v103 : BitVec 32 := Scalar.addi v101 v102
  let c3_i32_47 : BitVec 32 := 3#32
  let c1_i32_51 : BitVec 32 := 1#32
  let v104 : BitVec 32 := Scalar.muli c3_i32_47 c1_i32_51
  let v105 : BitVec 32 := Scalar.addi v103 v104
  v105.toNat
def k0_dev25 (d0 : Dev nD) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v128 : BitVec 32 := Scalar.muli v2 c16_i32_68
  let v129 : BitVec 32 := Scalar.addi c0_i32_69 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v130 : BitVec 32 := Scalar.muli v5 c4_i32_70
  let v131 : BitVec 32 := Scalar.addi v129 v130
  let c0_i32_67 : BitVec 32 := 0#32
  let c1_i32_71 : BitVec 32 := 1#32
  let v132 : BitVec 32 := Scalar.muli c0_i32_67 c1_i32_71
  let v133 : BitVec 32 := Scalar.addi v131 v132
  v133.toNat
def k0_dev26 (d0 : Dev nD) : Nat :=
  let c0_i32_139 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_138 : BitVec 32 := 16#32
  let v208 : BitVec 32 := Scalar.muli v2 c16_i32_138
  let v209 : BitVec 32 := Scalar.addi c0_i32_139 v208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_140 : BitVec 32 := 4#32
  let v210 : BitVec 32 := Scalar.muli v5 c4_i32_140
  let v211 : BitVec 32 := Scalar.addi v209 v210
  let c1_i32_137 : BitVec 32 := 1#32
  let c1_i32_141 : BitVec 32 := 1#32
  let v212 : BitVec 32 := Scalar.muli c1_i32_137 c1_i32_141
  let v213 : BitVec 32 := Scalar.addi v211 v212
  v213.toNat
def k0_dev27 (d0 : Dev nD) : Nat :=
  let c0_i32_168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_167 : BitVec 32 := 16#32
  let v235 : BitVec 32 := Scalar.muli v2 c16_i32_167
  let v236 : BitVec 32 := Scalar.addi c0_i32_168 v235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_169 : BitVec 32 := 4#32
  let v237 : BitVec 32 := Scalar.muli v5 c4_i32_169
  let v238 : BitVec 32 := Scalar.addi v236 v237
  let c1_i32_166 : BitVec 32 := 1#32
  let c1_i32_170 : BitVec 32 := 1#32
  let v239 : BitVec 32 := Scalar.muli c1_i32_166 c1_i32_170
  let v240 : BitVec 32 := Scalar.addi v238 v239
  v240.toNat
def k0_dev28 (d0 : Dev nD) : Nat :=
  let c0_i32_208 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_207 : BitVec 32 := 16#32
  let v274 : BitVec 32 := Scalar.muli v2 c16_i32_207
  let v275 : BitVec 32 := Scalar.addi c0_i32_208 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_209 : BitVec 32 := 4#32
  let v276 : BitVec 32 := Scalar.muli v5 c4_i32_209
  let v277 : BitVec 32 := Scalar.addi v275 v276
  let c3_i32_206 : BitVec 32 := 3#32
  let c1_i32_210 : BitVec 32 := 1#32
  let v278 : BitVec 32 := Scalar.muli c3_i32_206 c1_i32_210
  let v279 : BitVec 32 := Scalar.addi v277 v278
  v279.toNat
def k0_dev29 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v301 : BitVec 32 := Scalar.muli v2 c16_i32_236
  let v302 : BitVec 32 := Scalar.addi c0_i32_237 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v303 : BitVec 32 := Scalar.muli v5 c4_i32_238
  let v304 : BitVec 32 := Scalar.addi v302 v303
  let c3_i32_235 : BitVec 32 := 3#32
  let c1_i32_239 : BitVec 32 := 1#32
  let v305 : BitVec 32 := Scalar.muli c3_i32_235 c1_i32_239
  let v306 : BitVec 32 := Scalar.addi v304 v305
  v306.toNat
def k0_dev30 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_278 : BitVec 32 := 16#32
  let v340 : BitVec 32 := Scalar.muli v2 c16_i32_278
  let v341 : BitVec 32 := Scalar.addi c0_i32_279 v340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_280 : BitVec 32 := 4#32
  let v342 : BitVec 32 := Scalar.muli v5 c4_i32_280
  let v343 : BitVec 32 := Scalar.addi v341 v342
  let c0_i32_277 : BitVec 32 := 0#32
  let c1_i32_281 : BitVec 32 := 1#32
  let v344 : BitVec 32 := Scalar.muli c0_i32_277 c1_i32_281
  let v345 : BitVec 32 := Scalar.addi v343 v344
  v345.toNat
def k0_dev31 (d0 : Dev nD) : Nat :=
  let c0_i32_308 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_307 : BitVec 32 := 16#32
  let v367 : BitVec 32 := Scalar.muli v2 c16_i32_307
  let v368 : BitVec 32 := Scalar.addi c0_i32_308 v367
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_309 : BitVec 32 := 4#32
  let v369 : BitVec 32 := Scalar.muli v5 c4_i32_309
  let v370 : BitVec 32 := Scalar.addi v368 v369
  let c0_i32_306 : BitVec 32 := 0#32
  let c1_i32_310 : BitVec 32 := 1#32
  let v371 : BitVec 32 := Scalar.muli c0_i32_306 c1_i32_310
  let v372 : BitVec 32 := Scalar.addi v370 v371
  v372.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_18 : BitVec 32 := 3#32
  let v55 : BitVec 1 := Scalar.cmpi .eq v8 c3_i32_18
  let v56 : BitVec 32 := Scalar.extui v55
  let c0_i32_19 : BitVec 32 := 0#32
  let v57 : BitVec 1 := Scalar.cmpi .ne v56 c0_i32_19
  v57

def k0_dev32 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v72 : BitVec 32 := Scalar.muli v2 c16_i32_30
  let v73 : BitVec 32 := Scalar.addi c0_i32_31 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v74 : BitVec 32 := Scalar.muli v5 c4_i32_32
  let v75 : BitVec 32 := Scalar.addi v73 v74
  let c2_i32_29 : BitVec 32 := 2#32
  let c1_i32_33 : BitVec 32 := 1#32
  let v76 : BitVec 32 := Scalar.muli c2_i32_29 c1_i32_33
  let v77 : BitVec 32 := Scalar.addi v75 v76
  v77.toNat
def k0_dev33 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v100 : BitVec 32 := Scalar.muli v2 c16_i32_48
  let v101 : BitVec 32 := Scalar.addi c0_i32_49 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v102 : BitVec 32 := Scalar.muli v5 c4_i32_50
  let v103 : BitVec 32 := Scalar.addi v101 v102
  let c1_i32_47 : BitVec 32 := 1#32
  let c1_i32_51 : BitVec 32 := 1#32
  let v104 : BitVec 32 := Scalar.muli c1_i32_47 c1_i32_51
  let v105 : BitVec 32 := Scalar.addi v103 v104
  v105.toNat
def k0_dev34 (d0 : Dev nD) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v128 : BitVec 32 := Scalar.muli v2 c16_i32_68
  let v129 : BitVec 32 := Scalar.addi c0_i32_69 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v130 : BitVec 32 := Scalar.muli v5 c4_i32_70
  let v131 : BitVec 32 := Scalar.addi v129 v130
  let c0_i32_67 : BitVec 32 := 0#32
  let c1_i32_71 : BitVec 32 := 1#32
  let v132 : BitVec 32 := Scalar.muli c0_i32_67 c1_i32_71
  let v133 : BitVec 32 := Scalar.addi v131 v132
  v133.toNat
def k0_dev35 (d0 : Dev nD) : Nat :=
  let c0_i32_139 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_138 : BitVec 32 := 16#32
  let v208 : BitVec 32 := Scalar.muli v2 c16_i32_138
  let v209 : BitVec 32 := Scalar.addi c0_i32_139 v208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_140 : BitVec 32 := 4#32
  let v210 : BitVec 32 := Scalar.muli v5 c4_i32_140
  let v211 : BitVec 32 := Scalar.addi v209 v210
  let c2_i32_137 : BitVec 32 := 2#32
  let c1_i32_141 : BitVec 32 := 1#32
  let v212 : BitVec 32 := Scalar.muli c2_i32_137 c1_i32_141
  let v213 : BitVec 32 := Scalar.addi v211 v212
  v213.toNat
def k0_dev36 (d0 : Dev nD) : Nat :=
  let c0_i32_168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_167 : BitVec 32 := 16#32
  let v235 : BitVec 32 := Scalar.muli v2 c16_i32_167
  let v236 : BitVec 32 := Scalar.addi c0_i32_168 v235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_169 : BitVec 32 := 4#32
  let v237 : BitVec 32 := Scalar.muli v5 c4_i32_169
  let v238 : BitVec 32 := Scalar.addi v236 v237
  let c2_i32_166 : BitVec 32 := 2#32
  let c1_i32_170 : BitVec 32 := 1#32
  let v239 : BitVec 32 := Scalar.muli c2_i32_166 c1_i32_170
  let v240 : BitVec 32 := Scalar.addi v238 v239
  v240.toNat
def k0_dev37 (d0 : Dev nD) : Nat :=
  let c0_i32_208 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_207 : BitVec 32 := 16#32
  let v274 : BitVec 32 := Scalar.muli v2 c16_i32_207
  let v275 : BitVec 32 := Scalar.addi c0_i32_208 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_209 : BitVec 32 := 4#32
  let v276 : BitVec 32 := Scalar.muli v5 c4_i32_209
  let v277 : BitVec 32 := Scalar.addi v275 v276
  let c1_i32_206 : BitVec 32 := 1#32
  let c1_i32_210 : BitVec 32 := 1#32
  let v278 : BitVec 32 := Scalar.muli c1_i32_206 c1_i32_210
  let v279 : BitVec 32 := Scalar.addi v277 v278
  v279.toNat
def k0_dev38 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v301 : BitVec 32 := Scalar.muli v2 c16_i32_236
  let v302 : BitVec 32 := Scalar.addi c0_i32_237 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v303 : BitVec 32 := Scalar.muli v5 c4_i32_238
  let v304 : BitVec 32 := Scalar.addi v302 v303
  let c1_i32_235 : BitVec 32 := 1#32
  let c1_i32_239 : BitVec 32 := 1#32
  let v305 : BitVec 32 := Scalar.muli c1_i32_235 c1_i32_239
  let v306 : BitVec 32 := Scalar.addi v304 v305
  v306.toNat
def k0_dev39 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_278 : BitVec 32 := 16#32
  let v340 : BitVec 32 := Scalar.muli v2 c16_i32_278
  let v341 : BitVec 32 := Scalar.addi c0_i32_279 v340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_280 : BitVec 32 := 4#32
  let v342 : BitVec 32 := Scalar.muli v5 c4_i32_280
  let v343 : BitVec 32 := Scalar.addi v341 v342
  let c0_i32_277 : BitVec 32 := 0#32
  let c1_i32_281 : BitVec 32 := 1#32
  let v344 : BitVec 32 := Scalar.muli c0_i32_277 c1_i32_281
  let v345 : BitVec 32 := Scalar.addi v343 v344
  v345.toNat
def k0_dev40 (d0 : Dev nD) : Nat :=
  let c0_i32_308 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_307 : BitVec 32 := 16#32
  let v367 : BitVec 32 := Scalar.muli v2 c16_i32_307
  let v368 : BitVec 32 := Scalar.addi c0_i32_308 v367
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_309 : BitVec 32 := 4#32
  let v369 : BitVec 32 := Scalar.muli v5 c4_i32_309
  let v370 : BitVec 32 := Scalar.addi v368 v369
  let c0_i32_306 : BitVec 32 := 0#32
  let c1_i32_310 : BitVec 32 := 1#32
  let v371 : BitVec 32 := Scalar.muli c0_i32_306 c1_i32_310
  let v372 : BitVec 32 := Scalar.addi v370 v371
  v372.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S_ : Shape := ⟨0, ![]⟩
abbrev S1x512x1024 : Shape := ⟨3, ![1, 512, 1024]⟩
abbrev S512x1024 : Shape := ⟨2, ![512, 1024]⟩
abbrev S2048x1024 : Shape := ⟨2, ![2048, 1024]⟩
abbrev S2048x1 : Shape := ⟨2, ![2048, 1]⟩
abbrev S1x1024x512 : Shape := ⟨3, ![1, 1024, 512]⟩
abbrev S1024x512 : Shape := ⟨2, ![1024, 512]⟩

abbrev nBuf : Space → Nat
  | .hbm => 126
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S8x512x1024, .f32⟩
  | .hbm, ⟨3, _⟩ => ⟨S8x1024x512, .f32⟩
  | .hbm, ⟨4, _⟩ => ⟨S_, .f32⟩
  | .hbm, ⟨5, _⟩ => ⟨S2048x512, .f32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S1x512x1024, .f32⟩
  | .hbm, ⟨10, _⟩ => ⟨S512x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1, .i1⟩
  | .hbm, ⟨16, _⟩ => ⟨S1x1024x512, .f32⟩
  | .hbm, ⟨17, _⟩ => ⟨S1024x512, .f32⟩
  | .hbm, ⟨18, _⟩ => ⟨S2048x512, .f32⟩
  | .hbm, ⟨19, _⟩ => ⟨S2048x512, .i1⟩
  | .hbm, ⟨20, _⟩ => ⟨S2048x512, .f32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S1x512x1024, .f32⟩
  | .hbm, ⟨25, _⟩ => ⟨S512x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1, .i1⟩
  | .hbm, ⟨31, _⟩ => ⟨S1x1024x512, .f32⟩
  | .hbm, ⟨32, _⟩ => ⟨S1024x512, .f32⟩
  | .hbm, ⟨33, _⟩ => ⟨S2048x512, .f32⟩
  | .hbm, ⟨34, _⟩ => ⟨S2048x512, .i1⟩
  | .hbm, ⟨35, _⟩ => ⟨S2048x512, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S1x512x1024, .f32⟩
  | .hbm, ⟨40, _⟩ => ⟨S512x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1, .i1⟩
  | .hbm, ⟨46, _⟩ => ⟨S1x1024x512, .f32⟩
  | .hbm, ⟨47, _⟩ => ⟨S1024x512, .f32⟩
  | .hbm, ⟨48, _⟩ => ⟨S2048x512, .f32⟩
  | .hbm, ⟨49, _⟩ => ⟨S2048x512, .i1⟩
  | .hbm, ⟨50, _⟩ => ⟨S2048x512, .f32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S1x512x1024, .f32⟩
  | .hbm, ⟨55, _⟩ => ⟨S512x1024, .f32⟩
  | .hbm, ⟨56, _⟩ => ⟨S2048x1024, .f32⟩
  | .hbm, ⟨57, _⟩ => ⟨S_, .f32⟩
  | .hbm, ⟨58, _⟩ => ⟨S2048x1024, .f32⟩
  | .hbm, ⟨59, _⟩ => ⟨S2048x1024, .f32⟩
  | .hbm, ⟨60, _⟩ => ⟨S2048x1, .i1⟩
  | .hbm, ⟨61, _⟩ => ⟨S1x1024x512, .f32⟩
  | .hbm, ⟨62, _⟩ => ⟨S1024x512, .f32⟩
  | .hbm, ⟨63, _⟩ => ⟨S2048x512, .f32⟩
  | .hbm, ⟨64, _⟩ => ⟨S2048x512, .i1⟩
  | .hbm, ⟨65, _⟩ => ⟨S2048x512, .f32⟩
  | .hbm, ⟨66, _⟩ => ⟨S_, .i32⟩
  | .hbm, ⟨67, _⟩ => ⟨S2048, .i32⟩
  | .hbm, ⟨68, _⟩ => ⟨S2048, .i1⟩
  | .hbm, ⟨69, _⟩ => ⟨S1x512x1024, .f32⟩
  | .hbm, ⟨70, _⟩ => ⟨S512x1024, .f32⟩
  | .hbm, ⟨71, _⟩ => ⟨S2048x1024, .f32⟩
  | .hbm, ⟨72, _⟩ => ⟨S_, .f32⟩
  | .hbm, ⟨73, _⟩ => ⟨S2048x1024, .f32⟩
  | .hbm, ⟨74, _⟩ => ⟨S2048x1024, .f32⟩
  | .hbm, ⟨75, _⟩ => ⟨S2048x1, .i1⟩
  | .hbm, ⟨76, _⟩ => ⟨S1x1024x512, .f32⟩
  | .hbm, ⟨77, _⟩ => ⟨S1024x512, .f32⟩
  | .hbm, ⟨78, _⟩ => ⟨S2048x512, .f32⟩
  | .hbm, ⟨79, _⟩ => ⟨S2048x512, .i1⟩
  | .hbm, ⟨80, _⟩ => ⟨S2048x512, .f32⟩
  | .hbm, ⟨81, _⟩ => ⟨S_, .i32⟩
  | .hbm, ⟨82, _⟩ => ⟨S2048, .i32⟩
  | .hbm, ⟨83, _⟩ => ⟨S2048, .i1⟩
  | .hbm, ⟨84, _⟩ => ⟨S1x512x1024, .f32⟩
  | .hbm, ⟨85, _⟩ => ⟨S512x1024, .f32⟩
  | .hbm, ⟨86, _⟩ => ⟨S2048x1024, .f32⟩
  | .hbm, ⟨87, _⟩ => ⟨S_, .f32⟩
  | .hbm, ⟨88, _⟩ => ⟨S2048x1024, .f32⟩
  | .hbm, ⟨89, _⟩ => ⟨S2048x1024, .f32⟩
  | .hbm, ⟨90, _⟩ => ⟨S2048x1, .i1⟩
  | .hbm, ⟨91, _⟩ => ⟨S1x1024x512, .f32⟩
  | .hbm, ⟨92, _⟩ => ⟨S1024x512, .f32⟩
  | .hbm, ⟨93, _⟩ => ⟨S2048x512, .f32⟩
  | .hbm, ⟨94, _⟩ => ⟨S2048x512, .i1⟩
  | .hbm, ⟨95, _⟩ => ⟨S2048x512, .f32⟩
  | .hbm, ⟨96, _⟩ => ⟨S_, .i32⟩
  | .hbm, ⟨97, _⟩ => ⟨S2048, .i32⟩
  | .hbm, ⟨98, _⟩ => ⟨S2048, .i1⟩
  | .hbm, ⟨99, _⟩ => ⟨S1x512x1024, .f32⟩
  | .hbm, ⟨100, _⟩ => ⟨S512x1024, .f32⟩
  | .hbm, ⟨101, _⟩ => ⟨S2048x1024, .f32⟩
  | .hbm, ⟨102, _⟩ => ⟨S_, .f32⟩
  | .hbm, ⟨103, _⟩ => ⟨S2048x1024, .f32⟩
  | .hbm, ⟨104, _⟩ => ⟨S2048x1024, .f32⟩
  | .hbm, ⟨105, _⟩ => ⟨S2048x1, .i1⟩
  | .hbm, ⟨106, _⟩ => ⟨S1x1024x512, .f32⟩
  | .hbm, ⟨107, _⟩ => ⟨S1024x512, .f32⟩
  | .hbm, ⟨108, _⟩ => ⟨S2048x512, .f32⟩
  | .hbm, ⟨109, _⟩ => ⟨S2048x512, .i1⟩
  | .hbm, ⟨110, _⟩ => ⟨S2048x512, .f32⟩
  | .hbm, ⟨111, _⟩ => ⟨S_, .i32⟩
  | .hbm, ⟨112, _⟩ => ⟨S2048, .i32⟩
  | .hbm, ⟨113, _⟩ => ⟨S2048, .i1⟩
  | .hbm, ⟨114, _⟩ => ⟨S1x512x1024, .f32⟩
  | .hbm, ⟨115, _⟩ => ⟨S512x1024, .f32⟩
  | .hbm, ⟨116, _⟩ => ⟨S2048x1024, .f32⟩
  | .hbm, ⟨117, _⟩ => ⟨S_, .f32⟩
  | .hbm, ⟨118, _⟩ => ⟨S2048x1024, .f32⟩
  | .hbm, ⟨119, _⟩ => ⟨S2048x1024, .f32⟩
  | .hbm, ⟨120, _⟩ => ⟨S2048x1, .i1⟩
  | .hbm, ⟨121, _⟩ => ⟨S1x1024x512, .f32⟩
  | .hbm, ⟨122, _⟩ => ⟨S1024x512, .f32⟩
  | .hbm, ⟨123, _⟩ => ⟨S2048x512, .f32⟩
  | .hbm, ⟨124, _⟩ => ⟨S2048x512, .i1⟩
  | .hbm, ⟨125, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_c_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_c_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Program.lean ====
/-
  The body of the exchange kernel, written once over the place of a device among its four `z`-peers.
  The printed body holds four copies of the exchange, one per place, each over literal rows and
  slots; here the steps are functions of the place and of the peer, and `body_eq` says the printed
  body is this text.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Tactic

@[expose] public section

noncomputable section

namespace Cert.KernelIdeal.Exch

open Idealize.ShloMosaic Idealize.SL Idealize.SL.Sem
open Cert.KernelIdeal Cert.KernelIdeal.Gen

variable {F : FTy → Type} [FloatOps F]

/-! ## The pieces of the buffers a step names -/

abbrev xM : Memref sig .tc .vmem S512x512 .f32 := Memref.whole cc0_stg0_0
abbrev aM : Memref sig .tc .vmem S512 .i32 := Memref.whole cc0_stg1_0
abbrev w1M : Memref sig .tc .vmem S2x512x1024 .f32 := Memref.whole cc0_stg2_0
abbrev w2M : Memref sig .tc .vmem S2x1024x512 .f32 := Memref.whole cc0_stg3_0
abbrev oM : Memref sig .tc .vmem S512x512 .f32 := Memref.whole cc0_stg4_0
abbrev sM : Memref sig .tc .vmem S4x160x512 .bf16 := Memref.whole cc0_scratch0
abbrev wM : Memref sig .tc .vmem S160x512 .bf16 := Memref.whole cc0_scratch1
abbrev gM : Memref sig .tc .vmem S4x160x512 .bf16 := Memref.whole cc0_scratch2
abbrev yM : Memref sig .tc .vmem S4x160x512 .bf16 := Memref.whole cc0_scratch3
abbrev pM : Memref sig .tc .vmem S640x512 .bf16 := Memref.whole cc0_scratch4

theorem inbSlot : ∀ j : Fin 4, ∀ a, (![j.val, 0, 0] : Fin 3 → Nat) a + S1x160x512.size a ≤ S4x160x512.size a := by decide
theorem inbHalf : ∀ (j : Fin 4) (l : Fin 2), ∀ a, (![j.val, l.val * 80, 0] : Fin 3 → Nat) a + S1x80x512.size a ≤ S4x160x512.size a := by decide
theorem inbOwn : ∀ (l : Fin 2), ∀ a, (![l.val * 80, 0] : Fin 2 → Nat) a + S80x512.size a ≤ S160x512.size a := by decide
theorem inbW1 : ∀ (l : Fin 2), ∀ a, (![l.val, 0, 0] : Fin 3 → Nat) a + S1x512x1024.size a ≤ S2x512x1024.size a := by decide
theorem inbW2 : ∀ (l : Fin 2), ∀ a, (![l.val, 0, 0] : Fin 3 → Nat) a + S1x1024x512.size a ≤ S2x1024x512.size a := by decide
theorem inbPiece : ∀ (j : Fin 4) (l : Fin 2), ∀ a, (![j.val * 160 + l.val * 80, 0] : Fin 2 → Nat) a + S80x512.size a ≤ S640x512.size a := by decide
theorem inbBlk : ∀ (j : Fin 4), ∀ a, (![j.val * 160, 0] : Fin 2 → Nat) a + S160x512.size a ≤ S640x512.size a := by decide

/-- The whole of a [512, 512] array. -/
abbrev rX : Rect S512x512 := Rect.unit (s := S512x512) ![0, 0] S512x512.size inb_S512x512_S512x512_0_0
/-- The whole of the codes. -/
abbrev rA : Rect S512 := Rect.unit (s := S512) ![0] S512.size inb_S512_S512_0
/-- Slot `j` of a [4, 160, 512] buffer. -/
abbrev rSlot (j : Fin 4) : Rect S4x160x512 := Rect.unit (s := S4x160x512) ![j.val, 0, 0] S1x160x512.size (inbSlot j)
/-- Half `l` of slot `j` of a [4, 160, 512] buffer: the rows of one of the peer's experts. -/
abbrev rHalf (j : Fin 4) (l : Fin 2) : Rect S4x160x512 := Rect.unit (s := S4x160x512) ![j.val, l.val * 80, 0] S1x80x512.size (inbHalf j l)
/-- The whole of the device's own packed rows. -/
abbrev rW : Rect S160x512 := Rect.unit (s := S160x512) ![0, 0] S160x512.size inb_S160x512_S160x512_0_0
/-- Half `l` of the device's own packed rows. -/
abbrev rOwn (l : Fin 2) : Rect S160x512 := Rect.unit (s := S160x512) ![l.val * 80, 0] S80x512.size (inbOwn l)
/-- Expert `l`'s first matrix. -/
abbrev rW1 (l : Fin 2) : Rect S2x512x1024 := Rect.unit (s := S2x512x1024) ![l.val, 0, 0] S1x512x1024.size (inbW1 l)
/-- Expert `l`'s second matrix. -/
abbrev rW2 (l : Fin 2) : Rect S2x1024x512 := Rect.unit (s := S2x1024x512) ![l.val, 0, 0] S1x1024x512.size (inbW2 l)
/-- The rows of the gathered outputs that expert `l` of peer `j` fills. -/
abbrev rPiece (j : Fin 4) (l : Fin 2) : Rect S640x512 := Rect.unit (s := S640x512) ![j.val * 160 + l.val * 80, 0] S80x512.size (inbPiece j l)
/-- The rows of the gathered outputs that peer `j` fills. -/
abbrev rBlk (j : Fin 4) : Rect S640x512 := Rect.unit (s := S640x512) ![j.val * 160, 0] S160x512.size (inbBlk j)

theorem packSlot : ∀ j : Fin 4, (rSlot j).PackedRows (EltTy.packing .bf16) := by decide
theorem packHalf : ∀ (j : Fin 4) (l : Fin 2), (rHalf j l).PackedRows (EltTy.packing .bf16) := by decide
theorem packPiece : ∀ (j : Fin 4) (l : Fin 2), (rPiece j l).PackedRows (EltTy.packing .bf16) := by decide
theorem wordsSlot : ∀ j : Fin 4, (rSlot j).WholeWords (EltTy.packing .bf16) := by decide
theorem wordsHalf : ∀ (j : Fin 4) (l : Fin 2), (rHalf j l).WholeWords (EltTy.packing .bf16) := by decide
theorem wordsPiece : ∀ (j : Fin 4) (l : Fin 2), (rPiece j l).WholeWords (EltTy.packing .bf16) := by decide

/-- Slot `j` of the packed rows to send, as a transfer names it. -/
abbrev sSlot (j : Fin 4) : Memref sig .tc .vmem S160x512 .bf16 :=
  (sM.slice (rSlot j) (fun _ => rfl)).squeeze S160x512 squeezes_S1x160x512_S160x512
/-- Slot `j` of the packed rows received, as a transfer names it. -/
abbrev gSlot (j : Fin 4) : Memref sig .tc .vmem S160x512 .bf16 :=
  (gM.slice (rSlot j) (fun _ => rfl)).squeeze S160x512 squeezes_S1x160x512_S160x512
/-- Half `l` of slot `j` of the outputs to send back, as a transfer names it. -/
abbrev yHalf (j : Fin 4) (l : Fin 2) : Memref sig .tc .vmem S80x512 .bf16 :=
  (yM.slice (rHalf j l) (fun _ => rfl)).squeeze S80x512 squeezes_S1x80x512_S80x512
/-- The rows of the gathered outputs that expert `l` of peer `j` fills, as a transfer names them. -/
abbrev pPiece (j : Fin 4) (l : Fin 2) : Memref sig .tc .vmem S80x512 .bf16 :=
  pM.slice (rPiece j l) (fun _ => rfl)

/-- The semaphore of this device's packed rows leaving for peer `j`. -/
abbrev sxSem (j : Fin 4) : DmaSem sig := ⟨5 + j.val, by have := j.isLt; show _ < 29; omega⟩
/-- The semaphore of peer `j`'s packed rows arriving. -/
abbrev rxSem (j : Fin 4) : DmaSem sig := ⟨9 + j.val, by have := j.isLt; show _ < 29; omega⟩
/-- The semaphore of outputs leaving for peer `j`. -/
abbrev spSem (j : Fin 4) (l : Fin 2) : DmaSem sig := ⟨13 + (2 * j.val + l.val), by have := j.isLt; have := l.isLt; show _ < 29; omega⟩
/-- The semaphore of outputs arriving from peer `j`. -/
abbrev rpSem (j : Fin 4) (l : Fin 2) : DmaSem sig := ⟨21 + (2 * j.val + l.val), by have := j.isLt; have := l.isLt; show _ < 29; omega⟩
/-- The semaphore the peers meet on. -/
abbrev barSem : Sem sig := (SemArray.scalar (sig.barrier 0 rfl) : Sems sig S_).sem

/-! ## The values -/

/-- The position of each token among the packed rows, from the codes. -/
def posV (a : Vec F S512 .i32) : IVec S512x1 32 :=
  k0_pay1 (F := F) (k0_pay102 (F := F) a) (k0_pay103 a) (k0_pay104 a)

/-- Which of peer `j`'s 160 packed rows each token takes, as zeros and ones. -/
def pmV (p : IVec S512x1 32) (j : Fin 4) : FVec F S512x160 .f32 :=
  sitofp .f32 (extui 32 (cmpi .eq (iota .tc S512x160 32 [1] iota_S512x160_d1_w32)
    (broadcastTo S512x160 (subi p (broadcast S512x1 (BitVec.ofNat 32 (160 * j.val)))) broadcasts_S512x1_S512x160)) natLt_1_32)

/-- The tokens packed for peer `j`. -/
def packV (p : IVec S512x1 32) (x : Vec F S512x512 .f32) (j : Fin 4) : FVec F S160x512 .bf16 :=
  truncf .bf16 (matmul dot_S512x160_S512x512_S160x512_0_0_1_1_n_n none (pmV p j)
    (shapeCast S512x512 x shapeCasts_S512x512_S512x512) (constant S160x512 .f32 0x00000000#32)) bitsLt_bf16_f32

/-- One expert on 80 rows. -/
def ffnV (x : FVec F S80x512 .bf16) (a : Vec F S1x512x1024 .f32) (b : Vec F S1x1024x512 .f32) : FVec F S80x512 .bf16 :=
  truncf .bf16 (matmul dot_S80x1024_S1024x512_S80x512_1_0_0_1_n_n none
    (maximumf (matmul dot_S80x512_S512x1024_S80x1024_1_0_0_1_n_n none x
        (shapeCast S512x1024 a shapeCasts_S1x512x1024_S512x1024) (constant S80x1024 .f32 0x00000000#32))
      (broadcast S80x1024 (Scalar.ofBits .f32 0x00000000#32)))
    (shapeCast S1024x512 b shapeCasts_S1x1024x512_S1024x512) (constant S80x512 .f32 0x00000000#32)) bitsLt_bf16_f32

/-- Rows taken back out of peer `j`'s 160 outputs. -/
def takeV (p : IVec S512x1 32) (j : Fin 4) (y : Vec F S160x512 .bf16) : FVec F S512x512 .f32 :=
  matmul dot_S512x160_S160x512_S512x512_1_0_0_1_n_n none (truncf .bf16 (pmV p j) bitsLt_bf16_f32) y
    (constant S512x512 .f32 0x00000000#32)

/-! ## The steps -/

/-- A program of the body. -/
abbrev Pr (F : FTy → Type) [FloatOps F] := Prog (TpuEff nD τ sig (Elt F) Λ₀ .tc) PUnit

/-- Pack the tokens of peer `j`'s experts and send them to it (device `n`), into its slot `me`. -/
def sendX (p : IVec S512x1 32) (me j : Fin 4) (n : Dev nD) (k : Pr F) : Pr F := do
  let x : Vec F S512x512 .f32 ← Prog.lift (.load xM rX.toLoadRect (View.loadsAt_vmem h_S512x512))
  let _v : Vec F S1x160x512 .bf16 ← Prog.lift (.load sM (rSlot j).toLoadRect (View.loadsAt_vmem h_S1x160x512))
  Prog.lift (.store sM (rSlot j) (shapeCast S1x160x512 (packV p x j) shapeCasts_S160x512_S1x160x512) Finset.univ
    (View.stores_vmem h_S1x160x512 ((Memref.isWhole_whole _).storeExact_slice rfl _ (packSlot j)) (fun _ => rfl)) (.inl rfl))
  Prog.lift (.enqueueDma (sSlot j) (.remote (Dev.tc n) (gSlot me) (.dma (sxSem j))) (.dma (rxSem me))
    (((Memref.isWhole_whole _).wordExact_slice rfl _ (wordsSlot j)).reshape _ _)
    (((Memref.isWhole_whole _).wordExact_slice rfl _ (wordsSlot me)).reshape _ _) ⟨⟨rfl, Or.inl rfl⟩, trivial⟩)
  k

/-- One of the device's own experts on its own tokens. -/
def ownE (me : Fin 4) (l : Fin 2) (k : Pr F) : Pr F := do
  let x : Vec F S80x512 .bf16 ← Prog.lift (.load wM (rOwn l).toLoadRect (View.loadsAt_vmem h_S80x512))
  let a : Vec F S1x512x1024 .f32 ← Prog.lift (.load w1M (rW1 l).toLoadRect (View.loadsAt_vmem h_S1x512x1024))
  let b : Vec F S1x1024x512 .f32 ← Prog.lift (.load w2M (rW2 l).toLoadRect (View.loadsAt_vmem h_S1x1024x512))
  let _v : Vec F S80x512 .bf16 ← Prog.lift (.load pM (rPiece me l).toLoadRect (View.loadsAt_vmem h_S80x512))
  Prog.lift (.store pM (rPiece me l) (shapeCast S80x512 (ffnV x a b) shapeCasts_S80x512_S80x512) Finset.univ
    (View.stores_vmem h_S80x512 ((Memref.isWhole_whole _).storeExact_slice rfl _ (packPiece me l)) (fun _ => rfl)) (.inl rfl))
  k

/-- Pack the device's own tokens. -/
def ownP (p : IVec S512x1 32) (me : Fin 4) (k : Pr F) : Pr F := do
  let x : Vec F S512x512 .f32 ← Prog.lift (.load xM rX.toLoadRect (View.loadsAt_vmem h_S512x512))
  let _v : Vec F S160x512 .bf16 ← Prog.lift (.load wM rW.toLoadRect (View.loadsAt_vmem h_S160x512))
  Prog.lift (.store wM rW (shapeCast S160x512 (packV p x me) shapeCasts_S160x512_S160x512) Finset.univ
    (View.stores_vmem h_S160x512 ((Memref.isWhole_whole _).storeExact_slice rfl _ packedbf16_S160x512_S160x512_0_0) (fun _ => rfl)) (.inl rfl))
  k

/-- Wait for peer `j`'s packed tokens. -/
def waitX (j : Fin 4) (k : Pr F) : Pr F := do
  Prog.lift (.waitDma2 (rxSem j) (sSlot j) (gSlot j)
    (((Memref.isWhole_whole _).wordExact_slice rfl _ (wordsSlot j)).reshape _ _)
    (((Memref.isWhole_whole _).wordExact_slice rfl _ (wordsSlot j)).reshape _ _))
  k

/-- Expert `l` on peer `j`'s tokens, the outputs sent back to it (device `n`). -/
def sendP (me j : Fin 4) (l : Fin 2) (n : Dev nD) (k : Pr F) : Pr F := do
  let x : Vec F S1x80x512 .bf16 ← Prog.lift (.load gM (rHalf j l).toLoadRect (View.loadsAt_vmem h_S1x80x512))
  let a : Vec F S1x512x1024 .f32 ← Prog.lift (.load w1M (rW1 l).toLoadRect (View.loadsAt_vmem h_S1x512x1024))
  let b : Vec F S1x1024x512 .f32 ← Prog.lift (.load w2M (rW2 l).toLoadRect (View.loadsAt_vmem h_S1x1024x512))
  let _v : Vec F S1x80x512 .bf16 ← Prog.lift (.load yM (rHalf j l).toLoadRect (View.loadsAt_vmem h_S1x80x512))
  Prog.lift (.store yM (rHalf j l) (shapeCast S1x80x512 (ffnV (shapeCast S80x512 x shapeCasts_S1x80x512_S80x512) a b)
      shapeCasts_S80x512_S1x80x512) Finset.univ
    (View.stores_vmem h_S1x80x512 ((Memref.isWhole_whole _).storeExact_slice rfl _ (packHalf j l)) (fun _ => rfl)) (.inl rfl))
  Prog.lift (.enqueueDma (yHalf j l) (.remote (Dev.tc n) (pPiece me l) (.dma (spSem j l))) (.dma (rpSem me l))
    (((Memref.isWhole_whole _).wordExact_slice rfl _ (wordsHalf j l)).reshape _ _)
    ((Memref.isWhole_whole _).wordExact_slice rfl _ (wordsPiece me l)) ⟨⟨rfl, Or.inl rfl⟩, trivial⟩)
  k

/-- The first term of the result: the device's own tokens. -/
def outI (p : IVec S512x1 32) (me : Fin 4) (k : Pr F) : Pr F := do
  let y : Vec F S160x512 .bf16 ← Prog.lift (.load pM (rBlk me).toLoadRect (View.loadsAt_vmem h_S160x512))
  let _v : Vec F S512x512 .f32 ← Prog.lift (.load oM rX.toLoadRect (View.loadsAt_vmem h_S512x512))
  Prog.lift (.store oM rX (takeV p me y) Finset.univ (View.stores_vmem_bits_univ h_S512x512 rfl) (.inl rfl))
  k

/-- Wait for the outputs of expert `l` of peer `j`. -/
def waitP (j : Fin 4) (l : Fin 2) (k : Pr F) : Pr F := do
  Prog.lift (.waitDma2 (rpSem j l) (yHalf j l) (pPiece j l)
    (((Memref.isWhole_whole _).wordExact_slice rfl _ (wordsHalf j l)).reshape _ _)
    ((Memref.isWhole_whole _).wordExact_slice rfl _ (wordsPiece j l)))
  k

/-- Add the tokens peer `j` worked on to the result. -/
def outA (p : IVec S512x1 32) (j : Fin 4) (k : Pr F) : Pr F := do
  let o : Vec F S512x512 .f32 ← Prog.lift (.load oM rX.toLoadRect (View.loadsAt_vmem h_S512x512))
  let y : Vec F S160x512 .bf16 ← Prog.lift (.load pM (rBlk j).toLoadRect (View.loadsAt_vmem h_S160x512))
  let _v : Vec F S512x512 .f32 ← Prog.lift (.load oM rX.toLoadRect (View.loadsAt_vmem h_S512x512))
  Prog.lift (.store oM rX (addf (shapeCast S512x512 o shapeCasts_S512x512_S512x512) (takeV p j y)) Finset.univ
    (View.stores_vmem_bits_univ h_S512x512 rfl) (.inl rfl))
  k

/-- Wait for the packed tokens sent to peer `j` to have left. -/
def doneX (j : Fin 4) (k : Pr F) : Pr F := do
  Prog.lift (.waitDma2 (sxSem j) (gSlot j) (sSlot j)
    (((Memref.isWhole_whole _).wordExact_slice rfl _ (wordsSlot j)).reshape _ _)
    (((Memref.isWhole_whole _).wordExact_slice rfl _ (wordsSlot j)).reshape _ _))
  k

/-- Wait for the outputs sent to peer `j` to have left. -/
def doneP (j : Fin 4) (l : Fin 2) (k : Pr F) : Pr F := do
  Prog.lift (.waitDma2 (spSem j l) (pPiece j l) (yHalf j l)
    ((Memref.isWhole_whole _).wordExact_slice rfl _ (wordsPiece j l))
    (((Memref.isWhole_whole _).wordExact_slice rfl _ (wordsHalf j l)).reshape _ _))
  k

/-- The exchange of the device at place `me`, its peers taken in the order `o`, `o'`, `o''`; the devices its nine
    transfers go to are `n₁`, …, `n₉`. -/
def branch (p : IVec S512x1 32) (me o o' o'' : Fin 4) (n₁ n₂ n₃ n₄ n₅ n₆ n₇ n₈ n₉ : Dev nD) : Pr F :=
  sendX p me o n₁ <| sendX p me o' n₂ <| sendX p me o'' n₃ <|
  ownP p me <| ownE me 0 <| ownE me 1 <|
  waitX o <| sendP me o 0 n₄ <| sendP me o 1 n₅ <|
  waitX o' <| sendP me o' 0 n₆ <| sendP me o' 1 n₇ <|
  waitX o'' <| sendP me o'' 0 n₈ <| sendP me o'' 1 n₉ <|
  outI p me <|
  waitP o 0 <| waitP o 1 <| outA p o <|
  waitP o' 0 <| waitP o' 1 <| outA p o' <|
  waitP o'' 0 <| waitP o'' 1 <| outA p o'' <|
  doneX o <| doneP o 0 <| doneP o 1 <|
  doneX o' <| doneP o' 0 <| doneP o' 1 <|
  doneX o'' <| doneP o'' 0 <| doneP o'' 1 <| pure ⟨⟩

/-- The start of the body: signal the peers, wait for their signals, read the codes. -/
abbrev startProg (F : FTy → Type) [FloatOps F] :=
  k0_part69 (F := F) xM (Memref.isWhole_whole _) aM (Memref.isWhole_whole _) w1M (Memref.isWhole_whole _) w2M (Memref.isWhole_whole _)
    oM (Memref.isWhole_whole _) sM (Memref.isWhole_whole _) wM (Memref.isWhole_whole _) gM (Memref.isWhole_whole _)
    yM (Memref.isWhole_whole _) pM (Memref.isWhole_whole _) cc0_scratch5 cc0_scratch6 cc0_scratch7 cc0_scratch8

/-- The exchange of the device's place. -/
def rest (d0 : Dev nD) (p : IVec S512x1 32) : Pr F := do
  if h : k0_cond5 d0 = 1#1 then do
    branch p 0 1 2 3
      ⟨k0_dev5 d0, k0_dev5_lt d0 h⟩ ⟨k0_dev6 d0, k0_dev6_lt d0 h⟩ ⟨k0_dev7 d0, k0_dev7_lt d0 h⟩
      ⟨k0_dev8 d0, k0_dev8_lt d0 h⟩ ⟨k0_dev9 d0, k0_dev9_lt d0 h⟩ ⟨k0_dev10 d0, k0_dev10_lt d0 h⟩
      ⟨k0_dev11 d0, k0_dev11_lt d0 h⟩ ⟨k0_dev12 d0, k0_dev12_lt d0 h⟩ ⟨k0_dev13 d0, k0_dev13_lt d0 h⟩
  else do
    pure ⟨⟩
  if h : k0_cond6 d0 = 1#1 then do
    branch p 1 0 2 3
      ⟨k0_dev14 d0, k0_dev14_lt d0 h⟩ ⟨k0_dev15 d0, k0_dev15_lt d0 h⟩ ⟨k0_dev16 d0, k0_dev16_lt d0 h⟩
      ⟨k0_dev17 d0, k0_dev17_lt d0 h⟩ ⟨k0_dev18 d0, k0_dev18_lt d0 h⟩ ⟨k0_dev19 d0, k0_dev19_lt d0 h⟩
      ⟨k0_dev20 d0, k0_dev20_lt d0 h⟩ ⟨k0_dev21 d0, k0_dev21_lt d0 h⟩ ⟨k0_dev22 d0, k0_dev22_lt d0 h⟩
  else do
    pure ⟨⟩
  if h : k0_cond7 d0 = 1#1 then do
    branch p 2 1 3 0
      ⟨k0_dev23 d0, k0_dev23_lt d0 h⟩ ⟨k0_dev24 d0, k0_dev24_lt d0 h⟩ ⟨k0_dev25 d0, k0_dev25_lt d0 h⟩
      ⟨k0_dev26 d0, k0_dev26_lt d0 h⟩ ⟨k0_dev27 d0, k0_dev27_lt d0 h⟩ ⟨k0_dev28 d0, k0_dev28_lt d0 h⟩
      ⟨k0_dev29 d0, k0_dev29_lt d0 h⟩ ⟨k0_dev30 d0, k0_dev30_lt d0 h⟩ ⟨k0_dev31 d0, k0_dev31_lt d0 h⟩
  else do
    pure ⟨⟩
  if h : k0_cond8 d0 = 1#1 then do
    branch p 3 2 1 0
      ⟨k0_dev32 d0, k0_dev32_lt d0 h⟩ ⟨k0_dev33 d0, k0_dev33_lt d0 h⟩ ⟨k0_dev34 d0, k0_dev34_lt d0 h⟩
      ⟨k0_dev35 d0, k0_dev35_lt d0 h⟩ ⟨k0_dev36 d0, k0_dev36_lt d0 h⟩ ⟨k0_dev37 d0, k0_dev37_lt d0 h⟩
      ⟨k0_dev38 d0, k0_dev38_lt d0 h⟩ ⟨k0_dev39 d0, k0_dev39_lt d0 h⟩ ⟨k0_dev40 d0, k0_dev40_lt d0 h⟩
  else do
    pure ⟨⟩
  pure ⟨⟩

/-- The body: its start, then the exchange of the device's place. -/
def body : Pr F := do
  let ⟨d0, _v2, _v5, _v8, v24, v29, v35⟩ : Σ' (d0 : Dev nD) (v2 : BitVec 32) (v5 : BitVec 32) (v8 : BitVec 32) (v24 : IVec S512x1 32) (v29 : FVec F S512x8 .f32), FVec F S512x8 .f32 ← startProg F
  rest d0 (k0_pay1 v24 v29 v35)

/-- The printed body, at the buffers the pipeline calls it with, is this one. -/
theorem body_eq (t : Fin cfg0.N) : bodyAt0 (F := F) t = body := by
  sl_kernel_rfl

end Cert.KernelIdeal.Exch

end
-- ==== Proof.Cells.lean ====
/-
  The peers of a device, what each buffer holds once it is filled, and the schedule of the exchange:
  who pays which semaphore, how much, and what the payment hands over.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The peers -/

/-- A device's place among its four `z`-peers. -/
def zof (c : Dev nD) : Fin 4 := ⟨c.val % 4, Nat.mod_lt _ (by decide)⟩

theorem peer_lt (c : Dev nD) (j : Fin 4) : c.val - c.val % 4 + j.val < nD := by
  have h : c.val < 32 := c.isLt
  have := j.isLt
  show _ < 32
  omega

/-- The `z`-peer of `c` at place `j`. -/
def peer (c : Dev nD) (j : Fin 4) : Dev nD := ⟨c.val - c.val % 4 + j.val, peer_lt c j⟩

theorem zof_peer (c : Dev nD) (j : Fin 4) : zof (peer c j) = j := by
  apply Fin.ext; have := j.isLt; show (c.val - c.val % 4 + j.val) % 4 = j.val; omega
theorem peer_peer (c : Dev nD) (i j : Fin 4) : peer (peer c i) j = peer c j := by
  apply Fin.ext; have := i.isLt; show (c.val - c.val % 4 + i.val) - (c.val - c.val % 4 + i.val) % 4 + j.val = c.val - c.val % 4 + j.val; omega
theorem peer_zof (c : Dev nD) : peer c (zof c) = c := by
  apply Fin.ext; show c.val - c.val % 4 + c.val % 4 = c.val; omega
theorem peer_back (c : Dev nD) (j : Fin 4) : peer (peer c j) (zof c) = c := by rw [peer_peer, peer_zof]
theorem peer_inj (c : Dev nD) {i j : Fin 4} (h : peer c i = peer c j) : i = j := by rw [← zof_peer c i, h, zof_peer]

/-! ## What the buffers hold -/

/-- The four blocks of every device as its kernel starts. -/
structure Blocks (F : FTy → Type) where
  x : Dev nD → Vec F S512x512 .f32
  a : Dev nD → Vec F S512 .i32
  w1 : Dev nD → Vec F S2x512x1024 .f32
  w2 : Dev nD → Vec F S2x1024x512 .f32

variable (B : Blocks F)

/-- The positions of device `c`'s tokens. -/
def pos (c : Dev nD) : IVec S512x1 32 := posV (F := F) (B.a c)
/-- Device `c`'s tokens packed for each peer. -/
def sFull (c : Dev nD) : Vec F S4x160x512 .bf16 := fun i => packV (pos B c) (B.x c) (i 0) (ix2 (i 1) (i 2))
/-- The tokens device `c` keeps, packed. -/
def wFull (c : Dev nD) : Vec F S160x512 .bf16 := packV (pos B c) (B.x c) (zof c)
/-- The tokens packed for device `c` by each peer. -/
def gFull (c : Dev nD) : Vec F S4x160x512 .bf16 := fun i => sFull B (peer c (i 0)) (ix3 (zof c) (i 1) (i 2))
/-- Expert `l` of device `c` on the tokens of the peer at `j`. -/
def eV (c : Dev nD) (j : Fin 4) (l : Fin 2) : FVec F S80x512 .bf16 :=
  ffnV (fun y => gFull B c (ix3 j ⟨l.val * 80 + (y 0).val, by have := l.isLt; have : (y 0).val < 80 := (y 0).isLt; omega⟩ (y 1)))
    (fun y => B.w1 c ((rW1 l).emb y)) (fun y => B.w2 c ((rW2 l).emb y))
/-- The outputs device `c` works out for each peer. -/
def yFull (c : Dev nD) : Vec F S4x160x512 .bf16 := fun i =>
  eV B c (i 0) ⟨(i 1).val / 80, by have : (i 1).val < 160 := (i 1).isLt; omega⟩
    (ix2 (⟨(i 1).val % 80, Nat.mod_lt _ (by decide)⟩ : Fin 80) (i 2))
/-- The outputs worked out for device `c` by each peer. -/
def pFull (c : Dev nD) : Vec F S640x512 .bf16 := fun i =>
  yFull B (peer c ⟨(i 0).val / 160, by have : (i 0).val < 640 := (i 0).isLt; omega⟩)
    (ix3 (zof c) (⟨(i 0).val % 160, Nat.mod_lt _ (by decide)⟩ : Fin 160) (i 1))
/-- The part of the result from the peer at `j`. -/
def part (c : Dev nD) (j : Fin 4) : FVec F S512x512 .f32 := takeV (pos B c) j fun y => pFull B c ((rBlk j).emb y)

/-- The order in which a device at place `z` takes its three peers. -/
def ord : Fin 4 → Fin 3 → Fin 4 := ![![1, 2, 3], ![0, 2, 3], ![1, 3, 0], ![2, 1, 0]]

/-- The result of the kernel on device `c`. -/
def outV (c : Dev nD) : FVec F S512x512 .f32 :=
  addf (addf (addf (part B c (zof c)) (part B c (ord (zof c) 0))) (part B c (ord (zof c) 1))) (part B c (ord (zof c) 2))

/-! ## The cells -/

/-- What a semaphore of the kernel is for. -/
inductive Kind where
  | none | bar | sx (j : Fin 4) | rx (j : Fin 4) | sp (j : Fin 4) (l : Fin 2) | rp (j : Fin 4) (l : Fin 2)
  deriving DecidableEq

/-- The purpose of each semaphore. -/
def kindOf : SemLoc sig → Kind
  | .reg s => if s = barSem then .bar else .none
  | .dma q =>
    if q.val < 5 then .none
    else if q.val < 9 then .sx ⟨(q.val - 5) % 4, Nat.mod_lt _ (by decide)⟩
    else if q.val < 13 then .rx ⟨(q.val - 9) % 4, Nat.mod_lt _ (by decide)⟩
    else if q.val < 21 then .sp ⟨(q.val - 13) / 2 % 4, Nat.mod_lt _ (by decide)⟩ ⟨(q.val - 13) % 2, Nat.mod_lt _ (by decide)⟩
    else .rp ⟨(q.val - 21) / 2 % 4, Nat.mod_lt _ (by decide)⟩ ⟨(q.val - 21) % 2, Nat.mod_lt _ (by decide)⟩

theorem kindOf_bar : kindOf (.reg barSem) = .bar := by unfold kindOf; exact if_pos rfl
theorem kindOf_sx : ∀ j : Fin 4, kindOf (.dma (sxSem j)) = .sx j := by decide
theorem kindOf_rx : ∀ j : Fin 4, kindOf (.dma (rxSem j)) = .rx j := by decide
theorem kindOf_sp : ∀ (j : Fin 4) (l : Fin 2), kindOf (.dma (spSem j l)) = .sp j l := by decide
theorem kindOf_rp : ∀ (j : Fin 4) (l : Fin 2), kindOf (.dma (rpSem j l)) = .rp j l := by decide

abbrev barCell (c : Dev nD) : GSem nD τ sig := ((c : Thread nD τ), .reg barSem)
abbrev sxCell (c : Dev nD) (j : Fin 4) : GSem nD τ sig := ((c : Thread nD τ), .dma (sxSem j))
abbrev rxCell (c : Dev nD) (j : Fin 4) : GSem nD τ sig := ((c : Thread nD τ), .dma (rxSem j))
abbrev spCell (c : Dev nD) (j : Fin 4) (l : Fin 2) : GSem nD τ sig := ((c : Thread nD τ), .dma (spSem j l))
abbrev rpCell (c : Dev nD) (j : Fin 4) (l : Fin 2) : GSem nD τ sig := ((c : Thread nD τ), .dma (rpSem j l))

/-- The kernel's own semaphores, in order. -/
abbrev osem (k : Fin 24) : SemLoc sig := .dma ⟨5 + k.val, by have := k.isLt; show _ < 29; omega⟩
/-- The semaphores of the exchange: the barrier, then the kernel's own. -/
def csem (k : Fin 25) : SemLoc sig := if h : k.val = 0 then .reg barSem else .dma ⟨4 + k.val, by have := k.isLt; show _ < 29; omega⟩
/-- The cells of the exchange. -/
abbrev kcell (ck : Dev nD × Fin 25) : GSem nD τ sig := ((ck.1 : Thread nD τ), csem ck.2)

theorem csem_bar : csem 0 = .reg barSem := rfl
theorem csem_sx : ∀ j : Fin 4, csem ⟨1 + j.val, by omega⟩ = .dma (sxSem j) := by decide
theorem csem_rx : ∀ j : Fin 4, csem ⟨5 + j.val, by omega⟩ = .dma (rxSem j) := by decide
theorem csem_sp : ∀ (j : Fin 4) (l : Fin 2), csem ⟨9 + (2 * j.val + l.val), by omega⟩ = .dma (spSem j l) := by decide
theorem csem_rp : ∀ (j : Fin 4) (l : Fin 2), csem ⟨17 + (2 * j.val + l.val), by omega⟩ = .dma (rpSem j l) := by decide

/-- What one transfer of packed tokens credits. -/
abbrev Nx : ℕ := (gSlot 0).view.dmaCredit
/-- What one transfer of outputs credits. -/
abbrev Np : ℕ := (pPiece 0 0).view.dmaCredit

/-! ## Pieces of buffers -/

/-- The elements `S` of a device's buffer `b`, holding `f`. -/
abbrev pts (c : Dev nD) (b : Ref sig .tc) (S : Finset b.ty.shape.Idx) (f : b.ty.Contents (Elt F)) : sProp 𝕄 :=
  (c : Thread nD τ).loc b ↦[S]{fullShare} f

/-- The elements `S` of a device's buffer `b`, whatever they hold. -/
abbrev anyPts (c : Dev nD) (b : Ref sig .tc) (S : Finset b.ty.shape.Idx) : sProp 𝕄 :=
  iprop(∃ f : b.ty.Contents (Elt F), pts (F := F) c b S f)

/-! ## The schedule -/

/-- The duties of a semaphore's one round. -/
def kduties (c : Dev nD) : Kind → Finset (Fin 4)
  | .none => ∅
  | .bar => Finset.univ.erase (zof c)
  | .sx j => if j = zof c then ∅ else {0}
  | .rx j => if j = zof c then ∅ else {0}
  | .sp j _ => if j = zof c then ∅ else {0}
  | .rp j _ => if j = zof c then ∅ else {0}

/-- What a duty adds. -/
def kamount : Kind → ℕ
  | .none => 1
  | .bar => 1
  | .sx _ => Nx
  | .rx _ => Nx
  | .sp _ _ => Np
  | .rp _ _ => Np

/-- What the peer at `d` hands device `c` with its signal: the places where `c`'s transfers to it land. -/
def barPay (c : Dev nD) (d : Fin 4) : sProp 𝕄 :=
  iprop(anyPts (F := F) (peer c d) cc0_scratch2 (rSlot (zof c)).set
    ∗ anyPts (F := F) (peer c d) cc0_scratch4 (rPiece (zof c) 0).set ∗ anyPts (F := F) (peer c d) cc0_scratch4 (rPiece (zof c) 1).set)

/-- What a duty hands over. -/
def kpay (c : Dev nD) : Kind → Fin 4 → sProp 𝕄
  | .none, _ => iprop(emp)
  | .bar, d => barPay c d
  | .sx j, _ => pts c cc0_scratch0 (rSlot j).set (sFull B c)
  | .rx j, _ => pts c cc0_scratch2 (rSlot j).set (gFull B c)
  | .sp j l, _ => pts c cc0_scratch3 (rHalf j l).set (yFull B c)
  | .rp j l, _ => pts c cc0_scratch4 (rPiece j l).set (pFull B c)

theorem kamount_pos (k : Kind) : 0 < kamount k := by
  cases k
  · exact Nat.one_pos
  · exact Nat.one_pos
  all_goals exact View.dmaCredit_pos _ (by decide)

/-- One round, round 0, of every cell. -/
def rd : Rounds.Schedule (GSem nD τ sig) (Fin 4) 𝕄 where
  duties g r := if r = 0 ∧ g.1.2 = .tc then kduties g.1.1 (kindOf g.2) else ∅
  unitless _ := False
  amount g _ _ := kamount (kindOf g.2)
  payload g _ d := kpay B g.1.1 (kindOf g.2) d
  amount_pos g _ _ _ := kamount_pos _

instance rd_payload_storable (g : GSem nD τ sig) (r : ℕ) (d : Fin 4) :
    BI.Storable (upEmb : UEmb _ 𝕄) ((rd (F := F) B).payload g r d) := by
  show BI.Storable upEmb (kpay B g.1.1 (kindOf g.2) d)
  cases kindOf g.2 <;> simp only [kpay, barPay] <;> infer_instance

theorem duties_later (g : GSem nD τ sig) : ∀ r, 1 ≤ r → (rd B).duties g r = ∅ :=
  fun r hr => if_neg fun h => by omega

theorem duties_at (c : Dev nD) (s : SemLoc sig) : (rd B).duties ((c : Thread nD τ), s) 0 = kduties c (kindOf s) := by
  dsimp only [rd]; exact if_pos ⟨rfl, rfl⟩
theorem payload_at (c : Dev nD) (s : SemLoc sig) (d : Fin 4) : (rd B).payload ((c : Thread nD τ), s) 0 d = kpay B c (kindOf s) d := rfl

section Sched
variable (c : Dev nD) (j : Fin 4) (l : Fin 2)

theorem duties_bar : (rd B).duties (barCell c) 0 = Finset.univ.erase (zof c) := by rw [duties_at, kindOf_bar]; rfl
theorem duties_sx (h : j ≠ zof c) : (rd B).duties (sxCell c j) 0 = {0} := by rw [duties_at, kindOf_sx]; exact if_neg h
theorem duties_rx (h : j ≠ zof c) : (rd B).duties (rxCell c j) 0 = {0} := by rw [duties_at, kindOf_rx]; exact if_neg h
theorem duties_sp (h : j ≠ zof c) : (rd B).duties (spCell c j l) 0 = {0} := by rw [duties_at, kindOf_sp]; exact if_neg h
theorem duties_rp (h : j ≠ zof c) : (rd B).duties (rpCell c j l) 0 = {0} := by rw [duties_at, kindOf_rp]; exact if_neg h
theorem duties_sx_self (h : j = zof c) : ∀ r, 0 ≤ r → (rd B).duties (sxCell c j) r = ∅ := fun r _ => by
  rcases Nat.eq_zero_or_pos r with rfl | hr
  · rw [duties_at, kindOf_sx]; exact if_pos h
  · exact duties_later B _ r hr
theorem duties_rx_self (h : j = zof c) : ∀ r, 0 ≤ r → (rd B).duties (rxCell c j) r = ∅ := fun r _ => by
  rcases Nat.eq_zero_or_pos r with rfl | hr
  · rw [duties_at, kindOf_rx]; exact if_pos h
  · exact duties_later B _ r hr
theorem duties_sp_self (h : j = zof c) : ∀ r, 0 ≤ r → (rd B).duties (spCell c j l) r = ∅ := fun r _ => by
  rcases Nat.eq_zero_or_pos r with rfl | hr
  · rw [duties_at, kindOf_sp]; exact if_pos h
  · exact duties_later B _ r hr
theorem duties_rp_self (h : j = zof c) : ∀ r, 0 ≤ r → (rd B).duties (rpCell c j l) r = ∅ := fun r _ => by
  rcases Nat.eq_zero_or_pos r with rfl | hr
  · rw [duties_at, kindOf_rp]; exact if_pos h
  · exact duties_later B _ r hr

theorem amount_bar (d : Fin 4) : (rd B).amount (barCell c) 0 d = 1 := by show kamount (kindOf (.reg barSem)) = 1; rw [kindOf_bar]; rfl
theorem amount_sx (d : Fin 4) : (rd B).amount (sxCell c j) 0 d = Nx := by show kamount (kindOf _) = _; rw [kindOf_sx]; rfl
theorem amount_rx (d : Fin 4) : (rd B).amount (rxCell c j) 0 d = Nx := by show kamount (kindOf _) = _; rw [kindOf_rx]; rfl
theorem amount_sp (d : Fin 4) : (rd B).amount (spCell c j l) 0 d = Np := by show kamount (kindOf _) = _; rw [kindOf_sp]; rfl
theorem amount_rp (d : Fin 4) : (rd B).amount (rpCell c j l) 0 d = Np := by show kamount (kindOf _) = _; rw [kindOf_rp]; rfl

theorem expect_bar : (rd B).expect (barCell c) 0 = 3 := by
  unfold Schedule.expect Schedule.amountOf
  rw [duties_bar, Finset.sum_congr rfl fun d _ => amount_bar B c d, Finset.sum_const, Finset.card_erase_of_mem (Finset.mem_univ _),
    Finset.card_univ, Fintype.card_fin, smul_eq_mul]
theorem expect_one {g : GSem nD τ sig} {n : ℕ} (hd : (rd B).duties g 0 = {0}) (ha : (rd B).amount g 0 0 = n) : (rd B).expect g 0 = n := by
  unfold Schedule.expect Schedule.amountOf; rw [hd, Finset.sum_singleton, ha]
theorem rest_one {g : GSem nD τ sig} (hd : (rd B).duties g 0 = {0}) :
    bigSep ((rd B).duties g 0 \ ∅) (fun d => (rd B).payload g 0 d) = (rd B).payload g 0 0 := by
  rw [Finset.sdiff_empty, hd, bigSep_singleton]

theorem payload_bar (d : Fin 4) : (rd B).payload (barCell c) 0 d = barPay c d := by rw [payload_at, kindOf_bar]; rfl
theorem payload_sx : (rd B).payload (sxCell c j) 0 0 = pts c cc0_scratch0 (rSlot j).set (sFull B c) := by rw [payload_at, kindOf_sx]; rfl
theorem payload_rx : (rd B).payload (rxCell c j) 0 0 = pts c cc0_scratch2 (rSlot j).set (gFull B c) := by rw [payload_at, kindOf_rx]; rfl
theorem payload_sp : (rd B).payload (spCell c j l) 0 0 = pts c cc0_scratch3 (rHalf j l).set (yFull B c) := by rw [payload_at, kindOf_sp]; rfl
theorem payload_rp : (rd B).payload (rpCell c j l) 0 0 = pts c cc0_scratch4 (rPiece j l).set (pFull B c) := by rw [payload_at, kindOf_rp]; rfl

/-- The three signals of the barrier's round hand over the landing places at the three peers. -/
theorem rest_bar {o o' o'' : Fin 4} (h : Finset.univ.erase (zof c) = {o, o', o''}) (h1 : o ≠ o') (h2 : o ≠ o'') (h3 : o' ≠ o'') :
    bigSep ((rd B).duties (barCell c) 0 \ ∅) (fun d => (rd B).payload (barCell c) 0 d) = iprop(barPay c o ∗ barPay c o' ∗ barPay c o'') := by
  rw [Finset.sdiff_empty, duties_bar, h, bigSep_insert (by simp [h1, h2]), bigSep_insert (by simp [h3]), bigSep_singleton,
    payload_bar, payload_bar, payload_bar]
  rfl

end Sched

/-! ## Cells that are set up -/

/-- Cell `g`'s invariant is in force and its round 0 is reached. -/
def Ready (g : GSem nD τ sig) : sProp 𝕄 := iprop(∃ κ : ℕ, cellInv ER (rd B) κ g ∗ reached ER g 0)

instance Ready_persistent (g : GSem nD τ sig) : BI.Persistent (Ready B g) := by unfold Ready; infer_instance

/-- Every cell is set up. -/
def recs : sProp 𝕄 := bigSep (Finset.univ : Finset (Dev nD × Fin 25)) fun ck => Ready B (kcell ck)

instance recs_persistent : BI.Persistent (recs B) := by unfold recs; infer_instance

theorem ready_of (ck : Dev nD × Fin 25) {g : GSem nD τ sig} (h : kcell ck = g) : recs B ⊢ Ready B g := by
  unfold recs; rw [← h]; exact bigSep_elim (Φ := fun ck => Ready B (kcell ck)) (Finset.mem_univ ck)

theorem ready_bar (c : Dev nD) : recs B ⊢ Ready B (barCell c) := ready_of B (c, 0) rfl
theorem ready_sx (c : Dev nD) (j : Fin 4) : recs B ⊢ Ready B (sxCell c j) := ready_of B (c, _) (congrArg (Prod.mk _) (csem_sx j))
theorem ready_rx (c : Dev nD) (j : Fin 4) : recs B ⊢ Ready B (rxCell c j) := ready_of B (c, _) (congrArg (Prod.mk _) (csem_rx j))
theorem ready_sp (c : Dev nD) (j : Fin 4) (l : Fin 2) : recs B ⊢ Ready B (spCell c j l) := ready_of B (c, _) (congrArg (Prod.mk _) (csem_sp j l))
theorem ready_rp (c : Dev nD) (j : Fin 4) (l : Fin 2) : recs B ⊢ Ready B (rpCell c j l) := ready_of B (c, _) (congrArg (Prod.mk _) (csem_rp j l))

/-! ## What a device owes; the levels -/

/-- A device's debt to the peer at `j` for packed tokens. -/
abbrev tX (c : Dev nD) (j : Fin 4) : CellTallies nD τ sig Unit := tallyAt (rxCell (peer c j) (zof c)) () Nx
/-- A device's debt to the peer at `j` for outputs of expert `l`. -/
abbrev tP (c : Dev nD) (j : Fin 4) (l : Fin 2) : CellTallies nD τ sig Unit := tallyAt (rpCell (peer c j) (zof c) l) () Np
/-- A device's debt to the peer at `j` for the signal. -/
abbrev tB (c : Dev nD) (j : Fin 4) : CellTallies nD τ sig Unit := if j = zof c then 0 else tallyAt (barCell (peer c j)) () 1

def L (g : GSem nD τ sig) : Finset Unit := if g.1.2 = .tc then {()} else ∅
def klev : Kind → ℕ
  | .bar => 1
  | .rx _ => 2
  | .rp _ _ => 3
  | _ => 0
def lv (g : GSem nD τ sig) (_ : Unit) : ℕ := klev (kindOf g.2)

theorem L_of_ne (g : GSem nD τ sig) (h : g.1.2 ≠ .tc) : L g = ∅ := if_neg h
theorem L_tc (c : Dev nD) (s : SemLoc sig) : L ((c : Thread nD τ), s) = {()} := if_pos rfl

/-- Everything owed is owed to cells at level `n` or above. -/
def LevGe (n : ℕ) (O : CellTallies nD τ sig Unit) : Prop := ∀ g u, 0 < O g u → g.1.2 = .tc ∧ n ≤ lv g u

theorem LevGe.zero (n : ℕ) : LevGe n 0 := fun g u h => absurd h (Nat.lt_irrefl 0)
theorem LevGe.add {n : ℕ} {O O' : CellTallies nD τ sig Unit} (h : LevGe n O) (h' : LevGe n O') : LevGe n (O + O') := fun g u hg => by
  rw [Pi.add_apply, Finsupp.add_apply] at hg
  rcases Nat.eq_zero_or_pos (O g u) with h0 | h0
  · exact h' g u (by omega)
  · exact h g u h0
theorem LevGe.tally {n : ℕ} {c : Dev nD} {s : SemLoc sig} {N : ℕ} (h : n ≤ klev (kindOf s)) : LevGe n (tallyAt ((c : Thread nD τ), s) () N) := fun g u hg => by
  rw [tallyAt_apply] at hg
  by_cases hgu : g = ((c : Thread nD τ), s) ∧ u = ()
  · rw [hgu.1]; exact ⟨rfl, h⟩
  · rw [if_neg hgu] at hg; exact absurd hg (Nat.lt_irrefl 0)
theorem LevGe.mono {n n' : ℕ} {O : CellTallies nD τ sig Unit} (h : LevGe n O) (hn : n' ≤ n) : LevGe n' O := fun g u hg => ⟨(h g u hg).1, hn.trans (h g u hg).2⟩

theorem LevGe.tX (c : Dev nD) (j : Fin 4) : LevGe 2 (tX c j) := LevGe.tally (by rw [kindOf_rx]; exact Nat.le_refl _)
theorem LevGe.tP (c : Dev nD) (j : Fin 4) (l : Fin 2) : LevGe 3 (tP c j l) := LevGe.tally (by rw [kindOf_rp]; exact Nat.le_refl _)
theorem LevGe.tB (c : Dev nD) (j : Fin 4) : LevGe 1 (tB c j) := by
  unfold Exch.tB; split
  · exact LevGe.zero _
  · exact LevGe.tally (by rw [kindOf_bar]; exact Nat.le_refl _)

/-- A device may wait on a cell below everything it owes. -/
theorem mayWait (c : Dev nD) (s : SemLoc sig) (O : CellTallies nD τ sig Unit) (h : LevGe (klev (kindOf s) + 1) O) :
    (levAts L lv : sProp 𝕄) ⊢ MayWait (c : Thread nD τ) s () O :=
  MayOwe.of_cut (L := L) (lev := lv) (klev (kindOf s)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

/-- What a device owes, whatever it has waited for. -/
def owesE (c : Dev nD) (O : CellTallies nD τ sig Unit) : sProp 𝕄 := iprop(∃ W, owes (c : Thread nD τ) O W)

end Cert.KernelIdeal.Exch

end
-- ==== Proof.Content.lean ====
/-
  Loads and stores of rectangles of a buffer, and what the stores and transfers of the exchange leave:
  each piece written holds what the buffer is to hold there in the end.
-/
module

public import proofs.«01_k».proof.Proof.Cells

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## Loads and stores -/

/-- The program's weakest precondition on device `c`. -/
abbrev wpp (c : Dev nD) (k : Pr F) (Q : PUnit → sProp 𝕄) : sProp 𝕄 :=
  wp frame (wpE (defs₀ (F := F)) 𝒱₀ (c : Thread nD τ) none) Set.univ k Q

/-- A load of a rectangle of a buffer reads what the buffer holds there. -/
theorem wp_ld (c : Dev nD) {S₀ : Shape} {e : EltTy} (M : Memref sig .tc .vmem S₀ e) {r : Rect S₀} {hl : M.view.LoadsAt r.toLoadRect}
    {k : (r.shape.Idx → Elt F e) → Pr F} {Q : PUnit → sProp 𝕄} {S : Finset M.view.ty.Idx} {f : M.view.ty.Contents (Elt F)}
    (hS : (M.access r).set ⊆ S) (v : r.shape.Idx → Elt F e) (hv : (M.access r).read (Elt F) f = v) :
    (M.view.loc (c : Thread nD τ) ↦[S]{fullShare} f : sProp 𝕄)
      ⊢ iprop(((M.view.loc (c : Thread nD τ) ↦[S]{fullShare} f) -∗ wpp c (k v) Q) -∗ wpp c (.op (.load M r.toLoadRect hl) k) Q) := by
  subst hv
  exact wp_load_rect 𝒱₀ (c : Thread nD τ) none Set.univ (m := M) (r := r) (k := k) (S := S) (f := f) hS

/-- What is written through a view is there what the view then reads. -/
theorem write_eq {sp : Space} {s : Shape} {e : EltTy} (v : View sig .tc sp s e) (f G : v.ty.Contents (Elt F)) (w : s.Idx → Elt F e)
    (hG : ∀ y, v.read (Elt F) G y = w y) : ∀ i ∈ v.set, v.write (Elt F) f w Finset.univ i = G i := by
  intro i hi
  obtain ⟨y, -, rfl⟩ := Finset.mem_map.mp hi
  rw [View.write_emb_of_mem (h := Finset.mem_univ y), ← hG y, View.read_apply, cast_cast, cast_eq]

/-- A store into a rectangle leaves it holding `G` when `G` is there what is stored. -/
theorem wp_st (c : Dev nD) {S₀ : Shape} {e : EltTy} (M : Memref sig .tc .vmem S₀ e) {r : Rect S₀} {w : r.shape.Idx → Elt F e}
    {hx : (M.access r).Stores Finset.univ} {hm : (Finset.univ : Finset r.shape.Idx) = Finset.univ ∨ ∀ a, r.stride a = 1}
    {k : PUnit → Pr F} {Q : PUnit → sProp 𝕄} {S : Finset M.view.ty.Idx} {f : M.view.ty.Contents (Elt F)} (hS : (M.access r).set = S) (G : M.view.ty.Contents (Elt F))
    (hG : ∀ y, (M.access r).read (Elt F) G y = w y) :
    (M.view.loc (c : Thread nD τ) ↦[S]{fullShare} f : sProp 𝕄)
      ⊢ iprop(((M.view.loc (c : Thread nD τ) ↦[S]{fullShare} G) -∗ wpp c (k ⟨⟩) Q) -∗ wpp c (.op (.store M r w Finset.univ hx hm) k) Q) := by
  subst hS
  have h : (M.view.loc (c : Thread nD τ) ↦[(M.access r).set]{fullShare} f : sProp 𝕄)
      ⊢ iprop(((M.view.loc (c : Thread nD τ) ↦[(M.access r).set]{fullShare} ((M.access r).write (Elt F) f w Finset.univ)) -∗ wpp c (k ⟨⟩) Q)
        -∗ wpp c (.op (.store M r w Finset.univ hx hm) k) Q) :=
    wp_store 𝒱₀ (c : Thread nD τ) none Set.univ (m := M) (r := r) (w := w) (Mk := Finset.univ) (hx := hx) (hm := hm) (k := k)
      (S := (M.access r).set) (f := f) (Finset.Subset.refl _)
  refine h.trans (wand_mono_left (wand_mono_left ?_))
  exact Entails.of_eq (pointsTo_congr (fun i hi => write_eq (M.access r) f G w hG i hi))

/-! ## Where rectangles lie -/

theorem rSlot_emb (j : Fin 4) (y : S1x160x512.Idx) : (rSlot j).emb y = ix3 j (y 1) (y 2) := by
  have h0 : (y 0).val < 1 := (y 0).isLt
  funext a
  match a with
  | ⟨0, _⟩ => exact Fin.ext (show j.val + 1 * (y 0).val = j.val by omega)
  | ⟨1, _⟩ => exact Fin.ext (show 0 + 1 * (y 1).val = (y 1).val by omega)
  | ⟨2, _⟩ => exact Fin.ext (show 0 + 1 * (y 2).val = (y 2).val by omega)

theorem rHalf_emb (j : Fin 4) (l : Fin 2) (y : S1x80x512.Idx) :
    (rHalf j l).emb y = ix3 j (⟨l.val * 80 + (y 1).val, by have := l.isLt; have : (y 1).val < 80 := (y 1).isLt; omega⟩ : Fin 160) (y 2) := by
  have h0 : (y 0).val < 1 := (y 0).isLt
  funext a
  match a with
  | ⟨0, _⟩ => exact Fin.ext (show j.val + 1 * (y 0).val = j.val by omega)
  | ⟨1, _⟩ => exact Fin.ext (show l.val * 80 + 1 * (y 1).val = l.val * 80 + (y 1).val by omega)
  | ⟨2, _⟩ => exact Fin.ext (show 0 + 1 * (y 2).val = (y 2).val by omega)

theorem rPiece_emb (j : Fin 4) (l : Fin 2) (y : S80x512.Idx) :
    (rPiece j l).emb y = ix2 (⟨j.val * 160 + l.val * 80 + (y 0).val, by have := j.isLt; have := l.isLt; have : (y 0).val < 80 := (y 0).isLt; omega⟩ : Fin 640) (y 1) := by
  funext a
  match a with
  | ⟨0, _⟩ => exact Fin.ext (show j.val * 160 + l.val * 80 + 1 * (y 0).val = j.val * 160 + l.val * 80 + (y 0).val by omega)
  | ⟨1, _⟩ => exact Fin.ext (show 0 + 1 * (y 1).val = (y 1).val by omega)

theorem rOwn_emb (l : Fin 2) (y : S80x512.Idx) :
    (rOwn l).emb y = ix2 (⟨l.val * 80 + (y 0).val, by have := l.isLt; have : (y 0).val < 80 := (y 0).isLt; omega⟩ : Fin 160) (y 1) := by
  funext a
  match a with
  | ⟨0, _⟩ => exact Fin.ext (show l.val * 80 + 1 * (y 0).val = l.val * 80 + (y 0).val by omega)
  | ⟨1, _⟩ => exact Fin.ext (show 0 + 1 * (y 1).val = (y 1).val by omega)

theorem rX_emb (y : S512x512.Idx) : rX.emb y = y := by
  funext a
  match a with
  | ⟨0, _⟩ => exact Fin.ext (show 0 + 1 * (y 0).val = (y 0).val by omega)
  | ⟨1, _⟩ => exact Fin.ext (show 0 + 1 * (y 1).val = (y 1).val by omega)

theorem rW_emb (y : S160x512.Idx) : rW.emb y = y := by
  funext a
  match a with
  | ⟨0, _⟩ => exact Fin.ext (show 0 + 1 * (y 0).val = (y 0).val by omega)
  | ⟨1, _⟩ => exact Fin.ext (show 0 + 1 * (y 1).val = (y 1).val by omega)

theorem rA_emb (y : S512.Idx) : rA.emb y = y := by
  funext a
  match a with
  | ⟨0, _⟩ => exact Fin.ext (show 0 + 1 * (y 0).val = (y 0).val by omega)

/-! ## What is stored and sent -/

variable (B : Blocks F) (c : Dev nD)

/-- The tokens packed for peer `j`, stored in slot `j`. -/
theorem sFull_slot (j : Fin 4) (h) (y : S1x160x512.Idx) :
    sFull B c ((rSlot j).emb y) = shapeCast S1x160x512 (packV (pos B c) (B.x c) j) h y := by
  rw [rSlot_emb, eq_ix3 y]
  exact (shapeCast_ab_1ab_apply (packV (pos B c) (B.x c) j) h (y 0) (y 1) (y 2)).symm

/-- Slot `j` of what is received is what peer `j` packed for this device. -/
theorem gFull_slot (j : Fin 4) (y : S1x160x512.Idx) :
    gFull B c ((rSlot j).emb y) = sFull B (peer c j) ((rSlot (zof c)).emb y) := by
  rw [rSlot_emb, rSlot_emb]; rfl

/-- The transfer of packed tokens brings peer `j` what it is to hold in slot `zof c`. -/
theorem sent_x (j : Fin 4) (y : S1x160x512.Idx) :
    gFull B (peer c j) ((rSlot (zof c)).emb y) = sFull B c ((rSlot j).emb y) := by
  rw [gFull_slot, zof_peer, peer_back]

/-- A device's own packed tokens. -/
theorem wFull_eq (h) (y : S160x512.Idx) : wFull B c (rW.emb y) = shapeCast S160x512 (packV (pos B c) (B.x c) (zof c)) h y := by
  rw [rW_emb, shapeCast_self]; rfl

/-- One expert on the tokens received from peer `j`. -/
theorem yFull_half (j : Fin 4) (l : Fin 2) (h h') (y : S1x80x512.Idx) :
    yFull B c ((rHalf j l).emb y)
      = shapeCast S1x80x512 (ffnV (shapeCast S80x512 (fun y => gFull B c ((rHalf j l).emb y)) h') (fun y => B.w1 c ((rW1 l).emb y)) (fun y => B.w2 c ((rW2 l).emb y))) h y := by
  have e : (shapeCast S80x512 (fun y : S1x80x512.Idx => gFull B c ((rHalf j l).emb y)) h' : FVec F S80x512 .bf16)
      = fun y => gFull B c (ix3 j ⟨l.val * 80 + (y 0).val, by have := l.isLt; have : (y 0).val < 80 := (y 0).isLt; omega⟩ (y 1)) := by
    funext y
    rw [eq_ix2 y]
    refine (shapeCast_1ab_ab_apply _ h' (y 0) (y 1)).trans ?_
    rw [rHalf_emb]; rfl
  have hy : (y 1).val < 80 := (y 1).isLt
  refine Eq.trans ?_ (congrArg (fun z => shapeCast S1x80x512 (ffnV z (fun y => B.w1 c ((rW1 l).emb y)) (fun y => B.w2 c ((rW2 l).emb y))) h y) e.symm)
  refine Eq.trans ?_ ((congrArg (shapeCast S1x80x512 (eV B c j l) h) (eq_ix3 y)).trans (shapeCast_ab_1ab_apply (eV B c j l) h (y 0) (y 1) (y 2))).symm
  rw [rHalf_emb]
  show eV B c j ⟨(l.val * 80 + (y 1).val) / 80, _⟩ (ix2 (⟨(l.val * 80 + (y 1).val) % 80, _⟩ : Fin 80) (y 2)) = eV B c j l (ix2 (y 1) (y 2))
  have h1 : (⟨(l.val * 80 + (y 1).val) / 80, by have := l.isLt; omega⟩ : Fin 2) = l := Fin.ext (by show (l.val * 80 + (y 1).val) / 80 = l.val; omega)
  have h2 : (⟨(l.val * 80 + (y 1).val) % 80, Nat.mod_lt _ (by decide)⟩ : Fin 80) = y 1 := Fin.ext (by show (l.val * 80 + (y 1).val) % 80 = (y 1).val; omega)
  rw [h1, h2]

/-- Rows of expert `l` of peer `j` among the gathered outputs. -/
theorem pFull_piece (j : Fin 4) (l : Fin 2) (y : S80x512.Idx) :
    pFull B c ((rPiece j l).emb y) = yFull B (peer c j) (ix3 (zof c) (⟨l.val * 80 + (y 0).val, by have := l.isLt; have : (y 0).val < 80 := (y 0).isLt; omega⟩ : Fin 160) (y 1)) := by
  have hy : (y 0).val < 80 := (y 0).isLt
  have hl := l.isLt
  rw [rPiece_emb]
  show yFull B (peer c ⟨(j.val * 160 + l.val * 80 + (y 0).val) / 160, _⟩) (ix3 (zof c) (⟨(j.val * 160 + l.val * 80 + (y 0).val) % 160, _⟩ : Fin 160) (y 1)) = _
  have h1 : (⟨(j.val * 160 + l.val * 80 + (y 0).val) / 160, by have := j.isLt; omega⟩ : Fin 4) = j := Fin.ext (by show (j.val * 160 + l.val * 80 + (y 0).val) / 160 = j.val; omega)
  have h2 : (⟨(j.val * 160 + l.val * 80 + (y 0).val) % 160, Nat.mod_lt _ (by decide)⟩ : Fin 160) = ⟨l.val * 80 + (y 0).val, by omega⟩ :=
    Fin.ext (by show (j.val * 160 + l.val * 80 + (y 0).val) % 160 = l.val * 80 + (y 0).val; omega)
  rw [h1, h2]

/-- The transfer of outputs brings peer `j` what it is to hold in rows `(zof c, l)`. -/
theorem sent_p (j : Fin 4) (l : Fin 2) (h : S80x512.numel = S1x80x512.numel) (y : S80x512.Idx) :
    pFull B (peer c j) ((rPiece (zof c) l).emb y) = yFull B c ((rHalf j l).emb (Shape.reshapeEquiv h y)) := by
  rw [pFull_piece, zof_peer, peer_back, rHalf_emb]
  have e : Shape.reshapeEquiv h y = ix3 (0 : Fin 1) (y 0) (y 1) :=
    (congrArg (Shape.reshapeEquiv h) (eq_ix2 y)).trans (shapeCast_1ab_ab_apply (fun i : S1x80x512.Idx => i) h.symm (y 0) (y 1))
  rw [e]; rfl

/-- The device's own experts on its own tokens, stored among the gathered outputs. -/
theorem pFull_own (l : Fin 2) (h) (y : S80x512.Idx) :
    pFull B c ((rPiece (zof c) l).emb y)
      = shapeCast S80x512 (ffnV (fun y => wFull B c ((rOwn l).emb y)) (fun y => B.w1 c ((rW1 l).emb y)) (fun y => B.w2 c ((rW2 l).emb y))) h y := by
  have hy : (y 0).val < 80 := (y 0).isLt
  rw [pFull_piece, shapeCast_self, peer_zof]
  have e : (fun y => wFull B c ((rOwn l).emb y) : FVec F S80x512 .bf16)
      = fun y => gFull B c (ix3 (zof c) ⟨l.val * 80 + (y 0).val, by have := l.isLt; have : (y 0).val < 80 := (y 0).isLt; omega⟩ (y 1)) := by
    funext y
    rw [rOwn_emb]
    show packV (pos B c) (B.x c) (zof c) _ = packV (pos B (peer c (zof c))) (B.x (peer c (zof c))) (zof c) _
    rw [peer_zof]; rfl
  rw [e]
  show eV B c (zof c) ⟨(l.val * 80 + (y 0).val) / 80, _⟩ (ix2 (⟨(l.val * 80 + (y 0).val) % 80, _⟩ : Fin 80) (y 1)) = eV B c (zof c) l y
  have h1 : (⟨(l.val * 80 + (y 0).val) / 80, by have := l.isLt; omega⟩ : Fin 2) = l := Fin.ext (by show (l.val * 80 + (y 0).val) / 80 = l.val; omega)
  have h2 : (⟨(l.val * 80 + (y 0).val) % 80, Nat.mod_lt _ (by decide)⟩ : Fin 80) = y 0 := Fin.ext (by show (l.val * 80 + (y 0).val) % 80 = (y 0).val; omega)
  rw [h1, h2]
  exact congrArg (eV B c (zof c) l) (eq_ix2 y).symm

end Cert.KernelIdeal.Exch

end
-- ==== Proof.Steps.lean ====
/-
  The steps of the exchange, one rule each: what a step needs, what it leaves.
-/
module

public import proofs.«01_k».proof.Proof.Content

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (B : Blocks F) (c : Dev nD)

/-- The device's block of `x`, staged. -/
abbrev xP : sProp 𝕄 := pts c cc0_stg0_0 Finset.univ (B.x c)
/-- The device's experts' first matrices, staged. -/
abbrev w1P : sProp 𝕄 := pts c cc0_stg2_0 Finset.univ (B.w1 c)
/-- The device's experts' second matrices, staged. -/
abbrev w2P : sProp 𝕄 := pts c cc0_stg3_0 Finset.univ (B.w2 c)
/-- The device's result, staged. -/
abbrev oP (f : FVec F S512x512 .f32) : sProp 𝕄 := pts c cc0_stg4_0 Finset.univ f

theorem read_x (f : Vec F S512x512 .f32) : (xM.access rX).read (Elt F) f = f := funext fun y => congrArg f (rX_emb y)
theorem read_o (f : Vec F S512x512 .f32) : (oM.access rX).read (Elt F) f = f := funext fun y => congrArg f (rX_emb y)
theorem set_w : (wM.access rW).set = Finset.univ := Finset.eq_univ_of_forall fun i =>
  (show (wM.access rW).emb i = i from rW_emb i) ▸ View.emb_mem_set (wM.access rW) i
theorem set_o : (oM.access rX).set = Finset.univ := Finset.eq_univ_of_forall fun i =>
  (show (oM.access rX).emb i = i from rX_emb i) ▸ View.emb_mem_set (oM.access rX) i

/-- Half a slot lies in the slot. -/
theorem half_subset (j : Fin 4) (l : Fin 2) : (rHalf j l).set ⊆ (rSlot j).set := fun i hi => by
  rw [Rect.mem_set_unit] at hi ⊢
  intro a
  have := hi a
  have hl := l.isLt
  match a with
  | ⟨0, _⟩ => exact this
  | ⟨1, _⟩ =>
    have h : l.val * 80 ≤ (i 1).val ∧ (i 1).val < l.val * 80 + 80 := this
    exact (show 0 ≤ (i 1).val ∧ (i 1).val < 0 + 160 by omega)
  | ⟨2, _⟩ => exact this

/-- The rows of the two experts of a peer are apart, -/
theorem piece_disjoint (j : Fin 4) : Disjoint (rPiece j 0).set (rPiece j 1).set :=
  Rect.unit_disjoint (0 : Fin 2) (Or.inl (show j.val * 160 + 0 * 80 + 80 ≤ j.val * 160 + 1 * 80 by omega))

/-- and make up the rows of the peer. -/
theorem piece_union (j : Fin 4) : (rPiece j 0).set ∪ (rPiece j 1).set = (rBlk j).set := by
  ext i
  rw [Finset.mem_union, Rect.mem_set_unit, Rect.mem_set_unit, Rect.mem_set_unit]
  constructor
  · rintro (h | h) a
    · have := h a
      match a with
      | ⟨0, _⟩ =>
        have h : j.val * 160 + 0 * 80 ≤ (i 0).val ∧ (i 0).val < j.val * 160 + 0 * 80 + 80 := this
        exact (show j.val * 160 ≤ (i 0).val ∧ (i 0).val < j.val * 160 + 160 by omega)
      | ⟨1, _⟩ => exact this
    · have := h a
      match a with
      | ⟨0, _⟩ =>
        have h : j.val * 160 + 1 * 80 ≤ (i 0).val ∧ (i 0).val < j.val * 160 + 1 * 80 + 80 := this
        exact (show j.val * 160 ≤ (i 0).val ∧ (i 0).val < j.val * 160 + 160 by omega)
      | ⟨1, _⟩ => exact this
  · intro h
    have h0 : j.val * 160 ≤ (i 0).val ∧ (i 0).val < j.val * 160 + 160 := h 0
    have h1 := h 1
    by_cases hc : (i 0).val < j.val * 160 + 80
    · refine Or.inl fun a => ?_
      match a with
      | ⟨0, _⟩ => exact (show j.val * 160 + 0 * 80 ≤ (i 0).val ∧ (i 0).val < j.val * 160 + 0 * 80 + 80 by omega)
      | ⟨1, _⟩ => exact h1
    · refine Or.inr fun a => ?_
      match a with
      | ⟨0, _⟩ => exact (show j.val * 160 + 1 * 80 ≤ (i 0).val ∧ (i 0).val < j.val * 160 + 1 * 80 + 80 by omega)
      | ⟨1, _⟩ => exact h1

/-- The rows of a peer, as the rows of its two experts. -/
theorem blk_pts (j : Fin 4) (f : Vec F S640x512 .bf16) :
    (pts c cc0_scratch4 (rBlk j).set f : sProp 𝕄) ⊣⊢ iprop(pts c cc0_scratch4 (rPiece j 0).set f ∗ pts c cc0_scratch4 (rPiece j 1).set f) := by
  unfold pts; rw [← piece_union]; exact pointsTo_union (piece_disjoint j)

/-! ## The pieces as a transfer names them -/

theorem sSlot_pts (j : Fin 4) (f : Vec F S4x160x512 .bf16) :
    ((sSlot j).view.loc (c : Thread nD τ) ↦[(sSlot j).view.set]{fullShare} f : sProp 𝕄) = pts c cc0_scratch0 (rSlot j).set f :=
  congrArg (fun S => pts (F := F) c cc0_scratch0 S f) ((View.set_reshape _ _).trans (View.set_slice_whole cc0_scratch0 (rSlot j)))
theorem gSlot_pts (j : Fin 4) (f : Vec F S4x160x512 .bf16) :
    ((gSlot j).view.loc (c : Thread nD τ) ↦[(gSlot j).view.set]{fullShare} f : sProp 𝕄) = pts c cc0_scratch2 (rSlot j).set f :=
  congrArg (fun S => pts (F := F) c cc0_scratch2 S f) ((View.set_reshape _ _).trans (View.set_slice_whole cc0_scratch2 (rSlot j)))
theorem yHalf_pts (j : Fin 4) (l : Fin 2) (f : Vec F S4x160x512 .bf16) :
    ((yHalf j l).view.loc (c : Thread nD τ) ↦[(yHalf j l).view.set]{fullShare} f : sProp 𝕄) = pts c cc0_scratch3 (rHalf j l).set f :=
  congrArg (fun S => pts (F := F) c cc0_scratch3 S f) ((View.set_reshape _ _).trans (View.set_slice_whole cc0_scratch3 (rHalf j l)))
theorem pPiece_pts (j : Fin 4) (l : Fin 2) (f : Vec F S640x512 .bf16) :
    ((pPiece j l).view.loc (c : Thread nD τ) ↦[(pPiece j l).view.set]{fullShare} f : sProp 𝕄) = pts c cc0_scratch4 (rPiece j l).set f :=
  congrArg (fun S => pts (F := F) c cc0_scratch4 S f) (View.set_slice_whole cc0_scratch4 (rPiece j l))

/-- The packed tokens sent to peer `j` land as what it is to hold. -/
theorem land_x (j : Fin 4) (fd : Vec F S4x160x512 .bf16) :
    ((gSlot (zof c)).view.loc (peer c j : Thread nD τ) ↦[(gSlot (zof c)).view.set]{fullShare}
        ((gSlot (zof c)).view.write (Elt F) fd ((sSlot j).view.read (Elt F) (sFull B c)) Finset.univ) : sProp 𝕄)
      = pts (peer c j) cc0_scratch2 (rSlot (zof c)).set (gFull B (peer c j)) :=
  (pointsTo_congr (write_eq (gSlot (zof c)).view fd (gFull B (peer c j)) _ fun y => sent_x B c j _)).trans (gSlot_pts (peer c j) (zof c) _)
/-- The outputs sent to peer `j` land as what it is to hold. -/
theorem land_p (j : Fin 4) (l : Fin 2) (fd : Vec F S640x512 .bf16) :
    ((pPiece (zof c) l).view.loc (peer c j : Thread nD τ) ↦[(pPiece (zof c) l).view.set]{fullShare}
        ((pPiece (zof c) l).view.write (Elt F) fd ((yHalf j l).view.read (Elt F) (yFull B c)) Finset.univ) : sProp 𝕄)
      = pts (peer c j) cc0_scratch4 (rPiece (zof c) l).set (pFull B (peer c j)) :=
  (pointsTo_congr (write_eq (pPiece (zof c) l).view fd (pFull B (peer c j)) _ fun y => sent_p B c j l _ y)).trans (pPiece_pts (peer c j) (zof c) l _)

/-! ## The packed tokens leave -/

theorem wp_sendX {j : Fin 4} (hj : j ≠ zof c) {n : Dev nD} (hn : n = peer c j) (O : CellTallies nD τ sig Unit) (k : Pr F) (Q : PUnit → sProp 𝕄) :
    iprop(recs B ∗ xP B c ∗ anyPts (F := F) c cc0_scratch0 (rSlot j).set ∗ anyPts (F := F) (peer c j) cc0_scratch2 (rSlot (zof c)).set
        ∗ owesE c (O + tX c j) ∗ dutyTok ER (sxCell c j) 0 0 ∗ dutyTok ER (rxCell (peer c j) (zof c)) 0 0)
      ⊢ iprop(((xP B c ∗ cred (tallyAt (sxCell c j) () Nx) ∗ owesE c O) -∗ wpp c k Q) -∗ wpp c (sendX (pos B c) (zof c) j n k) Q) := by
  subst hn
  have hj' : zof c ≠ zof (peer c j) := by rw [zof_peer]; exact fun h => hj h.symm
  unfold sendX wpp
  simp only [Prog.lift, Prog.bind_op, Prog.bind_ret, Prog.pure_eq_ret]
  iintro ⟨#Hr, Hx, ⟨%fs, Hs⟩, ⟨%fd, Hd⟩, HO, Ht, Ht'⟩ Hk
  iapply (wp_ld c xM (r := rX) (Finset.subset_univ _) _ (read_x (B.x c))) $$ Hx; iintro Hx
  iapply (wp_ld c sM (r := rSlot j) (View.set_slice_whole cc0_scratch0 (rSlot j)).subset _ rfl) $$ Hs; iintro Hs
  iapply (wp_st c sM (r := rSlot j) (View.set_slice_whole cc0_scratch0 (rSlot j)) (sFull B c) (sFull_slot B c j _)) $$ Hs; iintro Hs
  ihave #H1 := (ready_sx B c j) $$ Hr
  ihave #H2 := (ready_rx B (peer c j) (zof c)) $$ Hr
  unfold Ready owesE
  icases H1 with ⟨%κ₁, #HI1, #HR1⟩
  icases H2 with ⟨%κ₂, #HI2, #HR2⟩
  icases HO with ⟨%W, HO⟩
  iapply (Rounds.wp_send_pointsTo 𝒱₀ ER (rd B) (c : Thread nD τ) none (c' := (peer c j : Thread nD τ)) (src := sSlot j) (dst := gSlot (zof c)) (κ₁ := κ₁) (κ₂ := κ₂)
      (r₁ := 0) (r₂ := 0) (d₁ := 0) (d₂ := 0) (q := fullShare) (fs := sFull B c) (fd := fd)
      (by rw [duties_sx B c j hj]; exact Finset.mem_singleton_self _) (by rw [duties_rx B (peer c j) (zof c) hj']; exact Finset.mem_singleton_self _)
      () () Nx rfl (amount_sx B c j 0) (amount_rx B (peer c j) (zof c) 0) O rfl (W := W)
      ((Entails.of_eq (sSlot_pts c j _)).trans (Entails.of_eq (payload_sx B c j).symm))
      ((Entails.of_eq (land_x B c j fd)).trans (Entails.of_eq (payload_rx B (peer c j) (zof c)).symm))) $$ [Hs Hd HO Ht Ht']
  · isplitr; · iexact HI1
    isplitr; · iexact HI2
    isplitl [Hs]; · iapply (Entails.of_eq (sSlot_pts c j (sFull B c)).symm); iexact Hs
    isplitl [Hd]; · iapply (Entails.of_eq (gSlot_pts (peer c j) (zof c) fd).symm); iexact Hd
    isplitl [HO]; · iexact HO
    isplitl [Ht]; · iexact Ht
    isplitr; · iexact HR1
    isplitl [Ht']; · iexact Ht'
    iexact HR2
  iintro ⟨Hc, HO⟩
  iapply Hk
  isplitl [Hx]; · iexact Hx
  isplitl [Hc]; · iexact Hc
  iexists W; iexact HO

/-! ## The device's own tokens -/

theorem wp_ownP (k : Pr F) (Q : PUnit → sProp 𝕄) :
    iprop(xP B c ∗ anyPts (F := F) c cc0_scratch1 Finset.univ)
      ⊢ iprop(((xP B c ∗ pts c cc0_scratch1 Finset.univ (wFull B c)) -∗ wpp c k Q) -∗ wpp c (ownP (pos B c) (zof c) k) Q) := by
  unfold ownP wpp
  simp only [Prog.lift, Prog.bind_op, Prog.bind_ret, Prog.pure_eq_ret]
  iintro ⟨Hx, ⟨%f, Hw⟩⟩ Hk
  iapply (wp_ld c xM (r := rX) (Finset.subset_univ _) _ (read_x (B.x c))) $$ Hx; iintro Hx
  iapply (wp_ld c wM (r := rW) (Finset.subset_univ _) _ rfl) $$ Hw; iintro Hw
  iapply (wp_st c wM (r := rW) (S := Finset.univ) set_w (wFull B c) (wFull_eq B c _)) $$ Hw; iintro Hw
  iapply Hk
  isplitl [Hx]; · iexact Hx
  iexact Hw

theorem wp_ownE (l : Fin 2) (k : Pr F) (Q : PUnit → sProp 𝕄) :
    iprop(w1P B c ∗ w2P B c ∗ pts c cc0_scratch1 Finset.univ (wFull B c) ∗ anyPts (F := F) c cc0_scratch4 (rPiece (zof c) l).set)
      ⊢ iprop(((w1P B c ∗ w2P B c ∗ pts c cc0_scratch1 Finset.univ (wFull B c) ∗ pts c cc0_scratch4 (rPiece (zof c) l).set (pFull B c))
          -∗ wpp c k Q) -∗ wpp c (ownE (zof c) l k) Q) := by
  unfold ownE wpp
  simp only [Prog.lift, Prog.bind_op, Prog.bind_ret, Prog.pure_eq_ret]
  iintro ⟨H1, H2, Hw, ⟨%f, Hp⟩⟩ Hk
  iapply (wp_ld c wM (r := rOwn l) (Finset.subset_univ _) _ rfl) $$ Hw; iintro Hw
  iapply (wp_ld c w1M (r := rW1 l) (Finset.subset_univ _) _ rfl) $$ H1; iintro H1
  iapply (wp_ld c w2M (r := rW2 l) (Finset.subset_univ _) _ rfl) $$ H2; iintro H2
  iapply (wp_ld c pM (r := rPiece (zof c) l) (View.set_slice_whole cc0_scratch4 _).subset _ rfl) $$ Hp; iintro Hp
  iapply (wp_st c pM (r := rPiece (zof c) l) (View.set_slice_whole cc0_scratch4 _) (pFull B c) (pFull_own B c l _)) $$ Hp; iintro Hp
  iapply Hk
  isplitl [H1]; · iexact H1
  isplitl [H2]; · iexact H2
  isplitl [Hw]; · iexact Hw
  iexact Hp

/-! ## Waits for transfers -/

/-- A wait for the whole round of a transfer's cell: the round's payload comes with it. -/
theorem wp_waitOne {q : DmaSem sig} {sp sp' : Space} {s : Shape} {e : EltTy} {src : Memref sig .tc sp s e} {dst : Memref sig .tc sp' s e}
    {hs : src.view.WordExact} {hd : dst.view.WordExact} {P : sProp 𝕄} {N : ℕ} (hdut : (rd B).duties ((c : Thread nD τ), .dma q) 0 = {0})
    (ham : (rd B).amount ((c : Thread nD τ), .dma q) 0 0 = N) (hpay : (rd B).payload ((c : Thread nD τ), .dma q) 0 0 = P)
    (hN : dst.view.dmaCredit = N) (O : CellTallies nD τ sig Unit) (hO : LevGe (klev (kindOf (.dma q)) + 1) O)
    (k : PUnit → Pr F) (Q : PUnit → sProp 𝕄) :
    iprop(Ready B ((c : Thread nD τ), .dma q) ∗ levAts L lv ∗ owesE c O ∗ cred (tallyAt ((c : Thread nD τ), .dma q) () N)
        ∗ atPos ER ((c : Thread nD τ), .dma q) 0 ∅ 0)
      ⊢ iprop(((owesE c O ∗ atPos ER ((c : Thread nD τ), .dma q) 1 ∅ 0 ∗ P) -∗ wpp c (k ⟨⟩) Q)
          -∗ wpp c (.op (.waitDma2 q src dst hs hd) k) Q) := by
  subst hN hpay
  unfold Ready owesE wpp
  iintro ⟨⟨%κ, #HI, #HR⟩, #Hlev, ⟨%W, HO⟩, Hc, Hat⟩ Hk
  iapply (Rounds.wp_wait_rest_token 𝒱₀ ER (rd B) (c : Thread nD τ) none (κ := κ) (wpE_waitDma2_eq 𝒱₀ (c : Thread nD τ) none Set.univ) (Set.mem_univ _) ()
      (O := O) (W := W) (R := 0) (m := 0) (T := ∅) (by rw [Nat.zero_add, expect_one B hdut ham])) $$ [Hc HO Hat]
  · isplitr; · iexact HI
    isplitl [Hc]; · iexact Hc
    isplitl [HO]; · iexact HO
    isplitr; · iapply (mayWait c _ O hO); iexact Hlev
    iexact Hat
  iintro ⟨HO, Hat, -, Hp⟩
  ihave Hp := (Entails.of_eq (rest_one B hdut)) $$ Hp
  iapply Hk
  isplitl [HO]; · iexists _; iexact HO
  isplitl [Hat]; · iexact Hat
  iexact Hp

theorem wp_waitX {j : Fin 4} (hj : j ≠ zof c) (O : CellTallies nD τ sig Unit) (hO : LevGe 3 O) (k : Pr F) (Q : PUnit → sProp 𝕄) :
    iprop(recs B ∗ levAts L lv ∗ owesE c O ∗ cred (tallyAt (rxCell c j) () Nx) ∗ atPos ER (rxCell c j) 0 ∅ 0)
      ⊢ iprop(((owesE c O ∗ atPos ER (rxCell c j) 1 ∅ 0 ∗ pts c cc0_scratch2 (rSlot j).set (gFull B c)) -∗ wpp c k Q) -∗ wpp c (waitX j k) Q) := by
  unfold waitX wpp
  simp only [Prog.lift, Prog.bind_op, Prog.bind_ret, Prog.pure_eq_ret]
  refine (sep_mono_left (ready_rx B c j)).trans ?_
  exact wp_waitOne B c (src := sSlot j) (dst := gSlot j) (duties_rx B c j hj) (amount_rx B c j 0) (payload_rx B c j) rfl O (by rw [kindOf_rx]; exact hO) (fun _ => k) Q

theorem wp_waitP {j : Fin 4} (hj : j ≠ zof c) (l : Fin 2) (k : Pr F) (Q : PUnit → sProp 𝕄) :
    iprop(recs B ∗ levAts L lv ∗ owesE c 0 ∗ cred (tallyAt (rpCell c j l) () Np) ∗ atPos ER (rpCell c j l) 0 ∅ 0)
      ⊢ iprop(((owesE c 0 ∗ atPos ER (rpCell c j l) 1 ∅ 0 ∗ pts c cc0_scratch4 (rPiece j l).set (pFull B c)) -∗ wpp c k Q) -∗ wpp c (waitP j l k) Q) := by
  unfold waitP wpp
  simp only [Prog.lift, Prog.bind_op, Prog.bind_ret, Prog.pure_eq_ret]
  refine (sep_mono_left (ready_rp B c j l)).trans ?_
  exact wp_waitOne B c (src := yHalf j l) (dst := pPiece j l) (duties_rp B c j l hj) (amount_rp B c j l 0) (payload_rp B c j l) rfl 0 (LevGe.zero _) (fun _ => k) Q

theorem wp_doneX {j : Fin 4} (hj : j ≠ zof c) (k : Pr F) (Q : PUnit → sProp 𝕄) :
    iprop(recs B ∗ levAts L lv ∗ owesE c 0 ∗ cred (tallyAt (sxCell c j) () Nx) ∗ atPos ER (sxCell c j) 0 ∅ 0)
      ⊢ iprop(((owesE c 0 ∗ atPos ER (sxCell c j) 1 ∅ 0 ∗ pts c cc0_scratch0 (rSlot j).set (sFull B c)) -∗ wpp c k Q) -∗ wpp c (doneX j k) Q) := by
  unfold doneX wpp
  simp only [Prog.lift, Prog.bind_op, Prog.bind_ret, Prog.pure_eq_ret]
  refine (sep_mono_left (ready_sx B c j)).trans ?_
  exact wp_waitOne B c (src := gSlot j) (dst := sSlot j) (duties_sx B c j hj) (amount_sx B c j 0) (payload_sx B c j) rfl 0 (LevGe.zero _) (fun _ => k) Q

theorem wp_doneP {j : Fin 4} (hj : j ≠ zof c) (l : Fin 2) (k : Pr F) (Q : PUnit → sProp 𝕄) :
    iprop(recs B ∗ levAts L lv ∗ owesE c 0 ∗ cred (tallyAt (spCell c j l) () Np) ∗ atPos ER (spCell c j l) 0 ∅ 0)
      ⊢ iprop(((owesE c 0 ∗ atPos ER (spCell c j l) 1 ∅ 0 ∗ pts c cc0_scratch3 (rHalf j l).set (yFull B c)) -∗ wpp c k Q) -∗ wpp c (doneP j l k) Q) := by
  unfold doneP wpp
  simp only [Prog.lift, Prog.bind_op, Prog.bind_ret, Prog.pure_eq_ret]
  refine (sep_mono_left (ready_sp B c j l)).trans ?_
  exact wp_waitOne B c (src := pPiece j l) (dst := yHalf j l) (duties_sp B c j l hj) (amount_sp B c j l 0) (payload_sp B c j l) rfl 0 (LevGe.zero _) (fun _ => k) Q

/-! ## The outputs leave -/

theorem wp_sendP {j : Fin 4} (hj : j ≠ zof c) (l : Fin 2) {n : Dev nD} (hn : n = peer c j) (O : CellTallies nD τ sig Unit) (k : Pr F) (Q : PUnit → sProp 𝕄) :
    iprop(recs B ∗ w1P B c ∗ w2P B c ∗ pts c cc0_scratch2 (rSlot j).set (gFull B c) ∗ anyPts (F := F) c cc0_scratch3 (rHalf j l).set
        ∗ anyPts (F := F) (peer c j) cc0_scratch4 (rPiece (zof c) l).set
        ∗ owesE c (O + tP c j l) ∗ dutyTok ER (spCell c j l) 0 0 ∗ dutyTok ER (rpCell (peer c j) (zof c) l) 0 0)
      ⊢ iprop(((w1P B c ∗ w2P B c ∗ pts c cc0_scratch2 (rSlot j).set (gFull B c) ∗ cred (tallyAt (spCell c j l) () Np) ∗ owesE c O) -∗ wpp c k Q)
          -∗ wpp c (sendP (zof c) j l n k) Q) := by
  subst hn
  have hj' : zof c ≠ zof (peer c j) := by rw [zof_peer]; exact fun h => hj h.symm
  unfold sendP wpp
  simp only [Prog.lift, Prog.bind_op, Prog.bind_ret, Prog.pure_eq_ret]
  iintro ⟨#Hr, H1, H2, Hg, ⟨%fs, Hs⟩, ⟨%fd, Hd⟩, HO, Ht, Ht'⟩ Hk
  iapply (wp_ld c gM (r := rHalf j l) ((View.set_slice_whole cc0_scratch2 (rHalf j l)).subset.trans (half_subset j l)) _ rfl) $$ Hg; iintro Hg
  iapply (wp_ld c w1M (r := rW1 l) (Finset.subset_univ _) _ rfl) $$ H1; iintro H1
  iapply (wp_ld c w2M (r := rW2 l) (Finset.subset_univ _) _ rfl) $$ H2; iintro H2
  iapply (wp_ld c yM (r := rHalf j l) (View.set_slice_whole cc0_scratch3 _).subset _ rfl) $$ Hs; iintro Hs
  iapply (wp_st c yM (r := rHalf j l) (View.set_slice_whole cc0_scratch3 _) (yFull B c) (yFull_half B c j l _ _)) $$ Hs; iintro Hs
  ihave #H1' := (ready_sp B c j l) $$ Hr
  ihave #H2' := (ready_rp B (peer c j) (zof c) l) $$ Hr
  unfold Ready owesE
  icases H1' with ⟨%κ₁, #HI1, #HR1⟩
  icases H2' with ⟨%κ₂, #HI2, #HR2⟩
  icases HO with ⟨%W, HO⟩
  iapply (Rounds.wp_send_pointsTo 𝒱₀ ER (rd B) (c : Thread nD τ) none (c' := (peer c j : Thread nD τ)) (src := yHalf j l) (dst := pPiece (zof c) l) (κ₁ := κ₁) (κ₂ := κ₂)
      (r₁ := 0) (r₂ := 0) (d₁ := 0) (d₂ := 0) (q := fullShare) (fs := yFull B c) (fd := fd)
      (by rw [duties_sp B c j l hj]; exact Finset.mem_singleton_self _) (by rw [duties_rp B (peer c j) (zof c) l hj']; exact Finset.mem_singleton_self _)
      () () Np rfl (amount_sp B c j l 0) (amount_rp B (peer c j) (zof c) l 0) O rfl (W := W)
      ((Entails.of_eq (yHalf_pts c j l _)).trans (Entails.of_eq (payload_sp B c j l).symm))
      ((Entails.of_eq (land_p B c j l fd)).trans (Entails.of_eq (payload_rp B (peer c j) (zof c) l).symm))) $$ [Hs Hd HO Ht Ht']
  · isplitr; · iexact HI1
    isplitr; · iexact HI2
    isplitl [Hs]; · iapply (Entails.of_eq (yHalf_pts c j l (yFull B c)).symm); iexact Hs
    isplitl [Hd]; · iapply (Entails.of_eq (pPiece_pts (peer c j) (zof c) l fd).symm); iexact Hd
    isplitl [HO]; · iexact HO
    isplitl [Ht]; · iexact Ht
    isplitr; · iexact HR1
    isplitl [Ht']; · iexact Ht'
    iexact HR2
  iintro ⟨Hc, HO⟩
  iapply Hk
  isplitl [H1]; · iexact H1
  isplitl [H2]; · iexact H2
  isplitl [Hg]; · iexact Hg
  isplitl [Hc]; · iexact Hc
  iexists W; iexact HO

/-! ## The result -/

theorem wp_outI (k : Pr F) (Q : PUnit → sProp 𝕄) :
    iprop(pts c cc0_scratch4 (rBlk (zof c)).set (pFull B c) ∗ anyPts (F := F) c cc0_stg4_0 Finset.univ)
      ⊢ iprop(((pts c cc0_scratch4 (rBlk (zof c)).set (pFull B c) ∗ oP c (part B c (zof c))) -∗ wpp c k Q) -∗ wpp c (outI (pos B c) (zof c) k) Q) := by
  unfold outI wpp
  simp only [Prog.lift, Prog.bind_op, Prog.bind_ret, Prog.pure_eq_ret]
  iintro ⟨Hp, ⟨%f, Ho⟩⟩ Hk
  iapply (wp_ld c pM (r := rBlk (zof c)) (View.set_slice_whole cc0_scratch4 _).subset _ rfl) $$ Hp; iintro Hp
  iapply (wp_ld c oM (r := rX) (Finset.subset_univ _) _ (read_o f)) $$ Ho; iintro Ho
  iapply (wp_st c oM (r := rX) (S := Finset.univ) set_o (part B c (zof c)) (congrFun (read_o _))) $$ Ho; iintro Ho
  iapply Hk
  isplitl [Hp]; · iexact Hp
  iexact Ho

theorem wp_outA (j : Fin 4) (f : FVec F S512x512 .f32) (k : Pr F) (Q : PUnit → sProp 𝕄) :
    iprop(pts c cc0_scratch4 (rBlk j).set (pFull B c) ∗ oP c f)
      ⊢ iprop(((pts c cc0_scratch4 (rBlk j).set (pFull B c) ∗ oP c (addf f (part B c j))) -∗ wpp c k Q) -∗ wpp c (outA (pos B c) j k) Q) := by
  unfold outA wpp
  simp only [Prog.lift, Prog.bind_op, Prog.bind_ret, Prog.pure_eq_ret]
  iintro ⟨Hp, Ho⟩ Hk
  iapply (wp_ld c oM (r := rX) (Finset.subset_univ _) _ (read_o f)) $$ Ho; iintro Ho
  iapply (wp_ld c pM (r := rBlk j) (View.set_slice_whole cc0_scratch4 _).subset _ rfl) $$ Hp; iintro Hp
  iapply (wp_ld c oM (r := rX) (Finset.subset_univ _) _ (read_o f)) $$ Ho; iintro Ho
  iapply (wp_st c oM (r := rX) (S := Finset.univ) set_o (addf f (part B c j))
    (fun y => (congrFun (read_o _) y).trans (congrFun (congrArg (fun z => addf z (part B c j)) (shapeCast_self f _).symm) y))) $$ Ho; iintro Ho
  iapply Hk
  isplitl [Hp]; · iexact Hp
  iexact Ho

end Cert.KernelIdeal.Exch

end
-- ==== Proof.Branch.lean ====
/-
  The exchange of one device, the steps put together: from what it starts with towards each peer to
  what it is left with.
-/
module

public import proofs.«01_k».proof.Proof.Steps

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (B : Blocks F) (c : Dev nD)

/-! ## What a device holds towards a peer -/

/-- For sending the packed tokens. -/
def preS (j : Fin 4) : sProp 𝕄 :=
  iprop(anyPts (F := F) c cc0_scratch0 (rSlot j).set ∗ anyPts (F := F) (peer c j) cc0_scratch2 (rSlot (zof c)).set
    ∗ dutyTok ER (sxCell c j) 0 0 ∗ dutyTok ER (rxCell (peer c j) (zof c)) 0 0)
/-- For working on the peer's tokens and sending the outputs back. -/
def preR (j : Fin 4) : sProp 𝕄 :=
  iprop(cred (tallyAt (rxCell c j) () Nx) ∗ atPos ER (rxCell c j) 0 ∅ 0
    ∗ anyPts (F := F) c cc0_scratch3 (rHalf j 0).set ∗ anyPts (F := F) c cc0_scratch3 (rHalf j 1).set
    ∗ anyPts (F := F) (peer c j) cc0_scratch4 (rPiece (zof c) 0).set ∗ anyPts (F := F) (peer c j) cc0_scratch4 (rPiece (zof c) 1).set
    ∗ dutyTok ER (spCell c j 0) 0 0 ∗ dutyTok ER (spCell c j 1) 0 0
    ∗ dutyTok ER (rpCell (peer c j) (zof c) 0) 0 0 ∗ dutyTok ER (rpCell (peer c j) (zof c) 1) 0 0)
/-- For receiving the peer's outputs. -/
def preA (j : Fin 4) : sProp 𝕄 :=
  iprop(cred (tallyAt (rpCell c j 0) () Np) ∗ atPos ER (rpCell c j 0) 0 ∅ 0
    ∗ cred (tallyAt (rpCell c j 1) () Np) ∗ atPos ER (rpCell c j 1) 0 ∅ 0)
/-- For the last waits. -/
def preD (j : Fin 4) : sProp 𝕄 :=
  iprop(atPos ER (sxCell c j) 0 ∅ 0 ∗ atPos ER (spCell c j 0) 0 ∅ 0 ∗ atPos ER (spCell c j 1) 0 ∅ 0)

/-- The peer's tokens, received. -/
def postR (j : Fin 4) : sProp 𝕄 :=
  iprop(atPos ER (rxCell c j) 1 ∅ 0 ∗ pts c cc0_scratch2 (rSlot j).set (gFull B c))
/-- The peer's outputs, received. -/
def postA (j : Fin 4) : sProp 𝕄 :=
  iprop(atPos ER (rpCell c j 0) 1 ∅ 0 ∗ atPos ER (rpCell c j 1) 1 ∅ 0 ∗ pts c cc0_scratch4 (rBlk j).set (pFull B c))
/-- What was sent, back. -/
def postD (j : Fin 4) : sProp 𝕄 :=
  iprop(atPos ER (sxCell c j) 1 ∅ 0 ∗ atPos ER (spCell c j 0) 1 ∅ 0 ∗ atPos ER (spCell c j 1) 1 ∅ 0
    ∗ pts c cc0_scratch0 (rSlot j).set (sFull B c) ∗ pts c cc0_scratch3 (rHalf j 0).set (yFull B c) ∗ pts c cc0_scratch3 (rHalf j 1).set (yFull B c))

/-- What a device starts with towards a peer, -/
def peerPre (j : Fin 4) : sProp 𝕄 := iprop(preS c j ∗ preR c j ∗ preA c j ∗ preD c j)
/-- and what it ends with. -/
def peerPost (j : Fin 4) : sProp 𝕄 := iprop(postR B c j ∗ postA B c j ∗ postD B c j)

/-! ## Three runs of steps towards a peer -/

theorem wp_recv {j : Fin 4} (hj : j ≠ zof c) {n n' : Dev nD} (hn : n = peer c j) (hn' : n' = peer c j)
    (O : CellTallies nD τ sig Unit) (hO : LevGe 3 O) (k : Pr F) (Q : PUnit → sProp 𝕄) :
    iprop(recs B ∗ levAts L lv ∗ w1P B c ∗ w2P B c ∗ preR c j ∗ owesE c ((O + tP c j 1) + tP c j 0))
      ⊢ iprop(((w1P B c ∗ w2P B c ∗ postR B c j ∗ cred (tallyAt (spCell c j 0) () Np) ∗ cred (tallyAt (spCell c j 1) () Np) ∗ owesE c O) -∗ wpp c k Q)
          -∗ wpp c (waitX j <| sendP (zof c) j 0 n <| sendP (zof c) j 1 n' k) Q) := by
  unfold preR postR
  iintro ⟨#Hr, #Hl, H1, H2, ⟨Hcr, Hat, Hy0, Hy1, Hq0, Hq1, Ht0, Ht1, Hu0, Hu1⟩, HO⟩ Hk
  iapply (wp_waitX B c hj _ ((hO.add (LevGe.tP c j 1)).add (LevGe.tP c j 0))) $$ [HO Hcr Hat]
  · isplitr; · iexact Hr
    isplitr; · iexact Hl
    isplitl [HO]; · iexact HO
    isplitl [Hcr]; · iexact Hcr
    iexact Hat
  iintro ⟨HO, Hat, Hg⟩
  iapply (wp_sendP B c hj 0 hn (O + tP c j 1)) $$ [H1 H2 Hg Hy0 Hq0 HO Ht0 Hu0]
  · isplitr; · iexact Hr
    isplitl [H1]; · iexact H1
    isplitl [H2]; · iexact H2
    isplitl [Hg]; · iexact Hg
    isplitl [Hy0]; · iexact Hy0
    isplitl [Hq0]; · iexact Hq0
    isplitl [HO]; · iexact HO
    isplitl [Ht0]; · iexact Ht0
    iexact Hu0
  iintro ⟨H1, H2, Hg, Hc0, HO⟩
  iapply (wp_sendP B c hj 1 hn' O) $$ [H1 H2 Hg Hy1 Hq1 HO Ht1 Hu1]
  · isplitr; · iexact Hr
    isplitl [H1]; · iexact H1
    isplitl [H2]; · iexact H2
    isplitl [Hg]; · iexact Hg
    isplitl [Hy1]; · iexact Hy1
    isplitl [Hq1]; · iexact Hq1
    isplitl [HO]; · iexact HO
    isplitl [Ht1]; · iexact Ht1
    iexact Hu1
  iintro ⟨H1, H2, Hg, Hc1, HO⟩
  iapply Hk
  isplitl [H1]; · iexact H1
  isplitl [H2]; · iexact H2
  isplitl [Hat Hg]
  · isplitl [Hat]; · iexact Hat
    iexact Hg
  isplitl [Hc0]; · iexact Hc0
  isplitl [Hc1]; · iexact Hc1
  iexact HO

theorem wp_add {j : Fin 4} (hj : j ≠ zof c) (f : FVec F S512x512 .f32) (k : Pr F) (Q : PUnit → sProp 𝕄) :
    iprop(recs B ∗ levAts L lv ∗ preA c j ∗ oP c f ∗ owesE c 0)
      ⊢ iprop(((postA B c j ∗ oP c (addf f (part B c j)) ∗ owesE c 0) -∗ wpp c k Q)
          -∗ wpp c (waitP j 0 <| waitP j 1 <| outA (pos B c) j k) Q) := by
  unfold preA postA
  iintro ⟨#Hr, #Hl, ⟨Hc0, Hat0, Hc1, Hat1⟩, Ho, HO⟩ Hk
  iapply (wp_waitP B c hj 0) $$ [HO Hc0 Hat0]
  · isplitr; · iexact Hr
    isplitr; · iexact Hl
    isplitl [HO]; · iexact HO
    isplitl [Hc0]; · iexact Hc0
    iexact Hat0
  iintro ⟨HO, Hat0, Hp0⟩
  iapply (wp_waitP B c hj 1) $$ [HO Hc1 Hat1]
  · isplitr; · iexact Hr
    isplitr; · iexact Hl
    isplitl [HO]; · iexact HO
    isplitl [Hc1]; · iexact Hc1
    iexact Hat1
  iintro ⟨HO, Hat1, Hp1⟩
  iapply (wp_outA B c j f) $$ [Hp0 Hp1 Ho]
  · isplitl [Hp0 Hp1]
    · iapply (blk_pts c j (pFull B c)).2
      isplitl [Hp0]; · iexact Hp0
      iexact Hp1
    iexact Ho
  iintro ⟨Hp, Ho⟩
  iapply Hk
  isplitl [Hat0 Hat1 Hp]
  · isplitl [Hat0]; · iexact Hat0
    isplitl [Hat1]; · iexact Hat1
    iexact Hp
  isplitl [Ho]; · iexact Ho
  iexact HO

theorem wp_done {j : Fin 4} (hj : j ≠ zof c) (k : Pr F) (Q : PUnit → sProp 𝕄) :
    iprop(recs B ∗ levAts L lv ∗ preD c j ∗ cred (tallyAt (sxCell c j) () Nx) ∗ cred (tallyAt (spCell c j 0) () Np) ∗ cred (tallyAt (spCell c j 1) () Np) ∗ owesE c 0)
      ⊢ iprop(((postD B c j ∗ owesE c 0) -∗ wpp c k Q) -∗ wpp c (doneX j <| doneP j 0 <| doneP j 1 k) Q) := by
  unfold preD postD
  iintro ⟨#Hr, #Hl, ⟨Hat, Hat0, Hat1⟩, Hc, Hc0, Hc1, HO⟩ Hk
  iapply (wp_doneX B c hj) $$ [HO Hc Hat]
  · isplitr; · iexact Hr
    isplitr; · iexact Hl
    isplitl [HO]; · iexact HO
    isplitl [Hc]; · iexact Hc
    iexact Hat
  iintro ⟨HO, Hat, Hs⟩
  iapply (wp_doneP B c hj 0) $$ [HO Hc0 Hat0]
  · isplitr; · iexact Hr
    isplitr; · iexact Hl
    isplitl [HO]; · iexact HO
    isplitl [Hc0]; · iexact Hc0
    iexact Hat0
  iintro ⟨HO, Hat0, Hy0⟩
  iapply (wp_doneP B c hj 1) $$ [HO Hc1 Hat1]
  · isplitr; · iexact Hr
    isplitr; · iexact Hl
    isplitl [HO]; · iexact HO
    isplitl [Hc1]; · iexact Hc1
    iexact Hat1
  iintro ⟨HO, Hat1, Hy1⟩
  iapply Hk
  isplitl [Hat Hat0 Hat1 Hs Hy0 Hy1]
  · isplitl [Hat]; · iexact Hat
    isplitl [Hat0]; · iexact Hat0
    isplitl [Hat1]; · iexact Hat1
    isplitl [Hs]; · iexact Hs
    isplitl [Hy0]; · iexact Hy0
    iexact Hy1
  iexact HO

/-! ## The exchange -/

/-- What a device owes in outputs, its peers in the order it takes them. -/
def owedP (o o' o'' : Fin 4) : CellTallies nD τ sig Unit :=
  (((((0 + tP c o'' 1) + tP c o'' 0) + tP c o' 1) + tP c o' 0) + tP c o 1) + tP c o 0
/-- What a device owes once the peers have met. -/
def owedX (o o' o'' : Fin 4) : CellTallies nD τ sig Unit := ((owedP c o o' o'' + tX c o'') + tX c o') + tX c o

/-- What a device holds for itself before the exchange, -/
def selfPre : sProp 𝕄 :=
  iprop(xP B c ∗ w1P B c ∗ w2P B c ∗ anyPts (F := F) c cc0_stg4_0 Finset.univ ∗ anyPts (F := F) c cc0_scratch1 Finset.univ
    ∗ anyPts (F := F) c cc0_scratch4 (rPiece (zof c) 0).set ∗ anyPts (F := F) c cc0_scratch4 (rPiece (zof c) 1).set)
/-- and after it, the result `f`. -/
def selfPost (f : FVec F S512x512 .f32) : sProp 𝕄 :=
  iprop(xP B c ∗ w1P B c ∗ w2P B c ∗ oP c f ∗ pts c cc0_scratch1 Finset.univ (wFull B c) ∗ pts c cc0_scratch4 (rBlk (zof c)).set (pFull B c))

/-- The exchange of a device, its peers taken in the order `o`, `o'`, `o''`. -/
theorem wp_branch {o o' o'' : Fin 4} (h : o ≠ zof c) (h' : o' ≠ zof c) (h'' : o'' ≠ zof c) {n₁ n₂ n₃ n₄ n₅ n₆ n₇ n₈ n₉ : Dev nD}
    (e₁ : n₁ = peer c o) (e₂ : n₂ = peer c o') (e₃ : n₃ = peer c o'') (e₄ : n₄ = peer c o) (e₅ : n₅ = peer c o)
    (e₆ : n₆ = peer c o') (e₇ : n₇ = peer c o') (e₈ : n₈ = peer c o'') (e₉ : n₉ = peer c o'') (Q : PUnit → sProp 𝕄) :
    iprop(recs B ∗ levAts L lv ∗ selfPre B c ∗ peerPre c o ∗ peerPre c o' ∗ peerPre c o'' ∗ owesE c (owedX c o o' o''))
      ⊢ iprop(((selfPost B c (addf (addf (addf (part B c (zof c)) (part B c o)) (part B c o')) (part B c o''))
            ∗ peerPost B c o ∗ peerPost B c o' ∗ peerPost B c o'' ∗ owesE c 0) -∗ Q ⟨⟩)
          -∗ wpp c (branch (pos B c) (zof c) o o' o'' n₁ n₂ n₃ n₄ n₅ n₆ n₇ n₈ n₉) Q) := by
  unfold branch selfPre selfPost peerPre peerPost
  iintro ⟨#Hr, #Hl, ⟨Hx, H1, H2, Ho, Hw, Hp0, Hp1⟩, ⟨Hs, Hv, Ha, Hd⟩, ⟨Hs', Hv', Ha', Hd'⟩, ⟨Hs'', Hv'', Ha'', Hd''⟩, HO⟩ Hk
  unfold owedX preS
  -- the packed tokens leave
  icases Hs with ⟨Hs, Hg, Ht, Hu⟩
  iapply (wp_sendX B c h e₁) $$ [Hx Hs Hg HO Ht Hu]
  · isplitr; · iexact Hr
    isplitl [Hx]; · iexact Hx
    isplitl [Hs]; · iexact Hs
    isplitl [Hg]; · iexact Hg
    isplitl [HO]; · iexact HO
    isplitl [Ht]; · iexact Ht
    iexact Hu
  iintro ⟨Hx, Hc, HO⟩
  icases Hs' with ⟨Hs, Hg, Ht, Hu⟩
  iapply (wp_sendX B c h' e₂) $$ [Hx Hs Hg HO Ht Hu]
  · isplitr; · iexact Hr
    isplitl [Hx]; · iexact Hx
    isplitl [Hs]; · iexact Hs
    isplitl [Hg]; · iexact Hg
    isplitl [HO]; · iexact HO
    isplitl [Ht]; · iexact Ht
    iexact Hu
  iintro ⟨Hx, Hc', HO⟩
  icases Hs'' with ⟨Hs, Hg, Ht, Hu⟩
  iapply (wp_sendX B c h'' e₃) $$ [Hx Hs Hg HO Ht Hu]
  · isplitr; · iexact Hr
    isplitl [Hx]; · iexact Hx
    isplitl [Hs]; · iexact Hs
    isplitl [Hg]; · iexact Hg
    isplitl [HO]; · iexact HO
    isplitl [Ht]; · iexact Ht
    iexact Hu
  iintro ⟨Hx, Hc'', HO⟩
  -- the device's own tokens
  iapply (wp_ownP B c) $$ [Hx Hw]
  · isplitl [Hx]; · iexact Hx
    iexact Hw
  iintro ⟨Hx, Hw⟩
  iapply (wp_ownE B c 0) $$ [H1 H2 Hw Hp0]
  · isplitl [H1]; · iexact H1
    isplitl [H2]; · iexact H2
    isplitl [Hw]; · iexact Hw
    iexact Hp0
  iintro ⟨H1, H2, Hw, Hp0⟩
  iapply (wp_ownE B c 1) $$ [H1 H2 Hw Hp1]
  · isplitl [H1]; · iexact H1
    isplitl [H2]; · iexact H2
    isplitl [Hw]; · iexact Hw
    iexact Hp1
  iintro ⟨H1, H2, Hw, Hp1⟩
  -- the peers' tokens
  unfold owedP
  iapply (wp_recv B c h e₄ e₅ _ ((((LevGe.zero 3).add (LevGe.tP c o'' 1)).add (LevGe.tP c o'' 0)).add (LevGe.tP c o' 1) |>.add (LevGe.tP c o' 0))) $$ [H1 H2 Hv HO]
  · isplitr; · iexact Hr
    isplitr; · iexact Hl
    isplitl [H1]; · iexact H1
    isplitl [H2]; · iexact H2
    isplitl [Hv]; · iexact Hv
    iexact HO
  iintro ⟨H1, H2, Hv, Hc0, Hc1, HO⟩
  iapply (wp_recv B c h' e₆ e₇ _ (((LevGe.zero 3).add (LevGe.tP c o'' 1)).add (LevGe.tP c o'' 0))) $$ [H1 H2 Hv' HO]
  · isplitr; · iexact Hr
    isplitr; · iexact Hl
    isplitl [H1]; · iexact H1
    isplitl [H2]; · iexact H2
    isplitl [Hv']; · iexact Hv'
    iexact HO
  iintro ⟨H1, H2, Hv', Hc0', Hc1', HO⟩
  iapply (wp_recv B c h'' e₈ e₉ _ (LevGe.zero 3)) $$ [H1 H2 Hv'' HO]
  · isplitr; · iexact Hr
    isplitr; · iexact Hl
    isplitl [H1]; · iexact H1
    isplitl [H2]; · iexact H2
    isplitl [Hv'']; · iexact Hv''
    iexact HO
  iintro ⟨H1, H2, Hv'', Hc0'', Hc1'', HO⟩
  -- the result
  iapply (wp_outI B c) $$ [Hp0 Hp1 Ho]
  · isplitl [Hp0 Hp1]
    · iapply (blk_pts c (zof c) (pFull B c)).2
      isplitl [Hp0]; · iexact Hp0
      iexact Hp1
    iexact Ho
  iintro ⟨Hp, Ho⟩
  iapply (wp_add B c h _) $$ [Ha Ho HO]
  · isplitr; · iexact Hr
    isplitr; · iexact Hl
    isplitl [Ha]; · iexact Ha
    isplitl [Ho]; · iexact Ho
    iexact HO
  iintro ⟨Ha, Ho, HO⟩
  iapply (wp_add B c h' _) $$ [Ha' Ho HO]
  · isplitr; · iexact Hr
    isplitr; · iexact Hl
    isplitl [Ha']; · iexact Ha'
    isplitl [Ho]; · iexact Ho
    iexact HO
  iintro ⟨Ha', Ho, HO⟩
  iapply (wp_add B c h'' _) $$ [Ha'' Ho HO]
  · isplitr; · iexact Hr
    isplitr; · iexact Hl
    isplitl [Ha'']; · iexact Ha''
    isplitl [Ho]; · iexact Ho
    iexact HO
  iintro ⟨Ha'', Ho, HO⟩
  -- what was sent has left
  iapply (wp_done B c h) $$ [Hd Hc Hc0 Hc1 HO]
  · isplitr; · iexact Hr
    isplitr; · iexact Hl
    isplitl [Hd]; · iexact Hd
    isplitl [Hc]; · iexact Hc
    isplitl [Hc0]; · iexact Hc0
    isplitl [Hc1]; · iexact Hc1
    iexact HO
  iintro ⟨Hd, HO⟩
  iapply (wp_done B c h') $$ [Hd' Hc' Hc0' Hc1' HO]
  · isplitr; · iexact Hr
    isplitr; · iexact Hl
    isplitl [Hd']; · iexact Hd'
    isplitl [Hc']; · iexact Hc'
    isplitl [Hc0']; · iexact Hc0'
    isplitl [Hc1']; · iexact Hc1'
    iexact HO
  iintro ⟨Hd', HO⟩
  iapply (wp_done B c h'') $$ [Hd'' Hc'' Hc0'' Hc1'' HO]
  · isplitr; · iexact Hr
    isplitr; · iexact Hl
    isplitl [Hd'']; · iexact Hd''
    isplitl [Hc'']; · iexact Hc''
    isplitl [Hc0'']; · iexact Hc0''
    isplitl [Hc1'']; · iexact Hc1''
    iexact HO
  iintro ⟨Hd'', HO⟩
  unfold wpp
  rw [Prog.pure_eq_ret, wp_ret]; imodintro
  iapply Hk
  isplitl [Hx H1 H2 Ho Hw Hp]
  · isplitl [Hx]; · iexact Hx
    isplitl [H1]; · iexact H1
    isplitl [H2]; · iexact H2
    isplitl [Ho]; · iexact Ho
    isplitl [Hw]; · iexact Hw
    iexact Hp
  isplitl [Hv Ha Hd]
  · isplitl [Hv]; · iexact Hv
    isplitl [Ha]; · iexact Ha
    iexact Hd
  isplitl [Hv' Ha' Hd']
  · isplitl [Hv']; · iexact Hv'
    isplitl [Ha']; · iexact Ha'
    iexact Hd'
  isplitl [Hv'' Ha'' Hd'']
  · isplitl [Hv'']; · iexact Hv''
    isplitl [Ha'']; · iexact Ha''
    iexact Hd''
  iexact HO

end Cert.KernelIdeal.Exch

end
-- ==== Proof.Body.lean ====
/-
  The whole body of one device: the peers meet, the codes are read, the exchange runs, the cells close.
-/
module

public import proofs.«01_k».proof.Proof.Branch

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## The conditions and the devices the program works out -/

theorem cond1_iff : ∀ d : Dev nD, k0_cond1 d = 1#1 ↔ (0 : Fin 4) ≠ zof d := by decide
theorem cond2_iff : ∀ d : Dev nD, k0_cond2 d = 1#1 ↔ (1 : Fin 4) ≠ zof d := by decide
theorem cond3_iff : ∀ d : Dev nD, k0_cond3 d = 1#1 ↔ (2 : Fin 4) ≠ zof d := by decide
theorem cond4_iff : ∀ d : Dev nD, k0_cond4 d = 1#1 ↔ (3 : Fin 4) ≠ zof d := by decide
theorem cond5_iff : ∀ d : Dev nD, k0_cond5 d = 1#1 ↔ zof d = 0 := by decide
theorem cond6_iff : ∀ d : Dev nD, k0_cond6 d = 1#1 ↔ zof d = 1 := by decide
theorem cond7_iff : ∀ d : Dev nD, k0_cond7 d = 1#1 ↔ zof d = 2 := by decide
theorem cond8_iff : ∀ d : Dev nD, k0_cond8 d = 1#1 ↔ zof d = 3 := by decide

/-- A device number worked out as row, column and place is the peer at that place. -/
theorem dev_peer {d : Dev nD} {j : Fin 4} {n : ℕ} {h : n < nD} (e : n = 16 * (d.val / 16) + 4 * ((d.val / 4) % 4) + j.val) :
    (⟨n, h⟩ : Dev nD) = peer d j := by
  apply Fin.ext
  show n = d.val - d.val % 4 + j.val
  have : d.val < 32 := d.isLt
  omega

/-! ## The start of the body -/

/-- Signal the peer `n` when `P` holds. -/
def sigIf {β : Type} (P : Prop) [Decidable P] (n : P → Dev nD) (k : Prog (TpuEff nD τ sig (Elt F) Λ₀ .tc) β) : Prog (TpuEff nD τ sig (Elt F) Λ₀ .tc) β :=
  if h : P then (do semSignalWord (n h) barSem 1#32; k) else k

/-- The start of the body: meet the peers, read the codes. -/
def startP (F : FTy → Type) [FloatOps F] : Prog (TpuEff nD τ sig (Elt F) Λ₀ .tc) (Σ' (d0 : Dev nD) (v2 : BitVec 32) (v5 : BitVec 32) (v8 : BitVec 32) (v24 : IVec S512x1 32) (v29 : FVec F S512x8 .f32), FVec F S512x8 .f32) := do
  let d0 : Dev nD ← Prog.lift .deviceId
  sigIf (k0_cond1 d0 = 1#1) (fun h => ⟨k0_dev1 d0, k0_dev1_lt d0 h⟩) <|
  sigIf (k0_cond2 d0 = 1#1) (fun h => ⟨k0_dev2 d0, k0_dev2_lt d0 h⟩) <|
  sigIf (k0_cond3 d0 = 1#1) (fun h => ⟨k0_dev3 d0, k0_dev3_lt d0 h⟩) <|
  sigIf (k0_cond4 d0 = 1#1) (fun h => ⟨k0_dev4 d0, k0_dev4_lt d0 h⟩) <| do
  semWaitWord barSem 3#32
  let a : Vec F S512 .i32 ← Prog.lift (.load aM rA.toLoadRect (View.loadsAt_vmem h_S512))
  pure ⟨d0, Scalar.remsi (Scalar.divsi (Dev.word d0) 16#32) 2#32, Scalar.remsi (Scalar.divsi (Dev.word d0) 4#32) 4#32,
    Scalar.remsi (Scalar.divsi (Dev.word d0) 1#32) 4#32, k0_pay102 (F := F) a, k0_pay103 a, k0_pay104 a⟩

theorem startP_eq : startProg F = startP F := by
  rw [startProg, k0_part69_eq_skeleton]
  sl_kernel_rfl

variable (B : Blocks F) (c : Dev nD)

/-- What a device hands over with its signal to the peer at `j`. -/
def sigPre (j : Fin 4) : sProp 𝕄 :=
  iprop(dutyTok ER (barCell (peer c j)) 0 (zof c) ∗ anyPts (F := F) c cc0_scratch2 (rSlot j).set
    ∗ anyPts (F := F) c cc0_scratch4 (rPiece j 0).set ∗ anyPts (F := F) c cc0_scratch4 (rPiece j 1).set)
/-- The same, nothing at the device's own place. -/
def sigJ (j : Fin 4) : sProp 𝕄 := if j = zof c then iprop(emp) else sigPre c j

theorem pay_sig (j : Fin 4) : barPay (F := F) (peer c j) (zof c)
    = iprop(anyPts (F := F) c cc0_scratch2 (rSlot j).set ∗ anyPts (F := F) c cc0_scratch4 (rPiece j 0).set ∗ anyPts (F := F) c cc0_scratch4 (rPiece j 1).set) := by
  unfold barPay; rw [peer_back, zof_peer]

/-- A signal to a peer, if it is one, pays what is owed to it. -/
theorem wp_sigIf {β : Type} {P : Prop} [Decidable P] {j : Fin 4} (hP : P ↔ j ≠ zof c) {n : P → Dev nD} (hn : ∀ h, n h = peer c j)
    (O : CellTallies nD τ sig Unit) (k : Prog (TpuEff nD τ sig (Elt F) Λ₀ .tc) β) (Q : β → sProp 𝕄) :
    iprop(recs B ∗ owesE c (O + tB c j) ∗ sigJ c j)
      ⊢ iprop((owesE c O -∗ wp frame (wpE (defs₀ (F := F)) 𝒱₀ (c : Thread nD τ) none) Set.univ k Q)
          -∗ wp frame (wpE (defs₀ (F := F)) 𝒱₀ (c : Thread nD τ) none) Set.univ (sigIf P n k) Q) := by
  unfold sigIf sigJ tB
  by_cases hj : j = zof c
  · rw [dif_neg (fun h => hP.mp h hj), if_pos hj, if_pos hj, add_zero]
    iintro ⟨-, HO, -⟩ Hk
    iapply Hk
    iexact HO
  · rw [dif_pos (hP.mpr hj), if_neg hj, if_neg hj, hn]
    simp only [semSignalWord, Prog.lift, Prog.bind_op, Prog.bind_ret, Prog.pure_eq_ret]
    unfold owesE sigPre
    refine (sep_mono_left (ready_bar B (peer c j))).trans ?_
    unfold Ready
    iintro ⟨⟨%κ, #HI, #HR⟩, ⟨%W, HO⟩, Ht, Hp⟩ Hk
    iapply (Rounds.wp_signal 𝒱₀ ER (rd B) (c : Thread nD τ) none (dst := (peer c j : Thread nD τ)) (κ := κ)
        (d := zof c) (by rw [duties_bar, zof_peer]; exact Finset.mem_erase.mpr ⟨fun h => hj h.symm, Finset.mem_univ _⟩)
        ((amount_bar B (peer c j) (zof c)).trans (by decide)) () O rfl)
      $$ [HO Ht Hp]
    · isplitr; · iexact HI
      isplitl [HO]; · iexact HO
      isplitl [Ht]; · iexact Ht
      isplitl [Hp]; · rw [payload_bar, pay_sig]; iexact Hp
      iexact HR
    iintro HO
    iapply Hk
    iexists W
    iexact HO

/-- The other three places, in the order the device takes them. -/
theorem erase_ord : ∀ z : Fin 4, Finset.univ.erase z = {ord z 0, ord z 1, ord z 2} := by decide
theorem ord_ne : ∀ (z : Fin 4) (i : Fin 3), ord z i ≠ z := by decide
theorem ord01 : ∀ z : Fin 4, ord z 0 ≠ ord z 1 := by decide
theorem ord02 : ∀ z : Fin 4, ord z 0 ≠ ord z 2 := by decide
theorem ord12 : ∀ z : Fin 4, ord z 1 ≠ ord z 2 := by decide

/-- The device's block of codes, staged. -/
abbrev aP : sProp 𝕄 := pts c cc0_stg1_0 Finset.univ (B.a c)
theorem read_a (f : Vec F S512 .i32) : (aM.access rA).read (Elt F) f = f := funext fun y => congrArg f (rA_emb y)

/-- Everything a device owes as its kernel starts. -/
def O₀ : CellTallies nD τ sig Unit :=
  (((owedX c (ord (zof c) 0) (ord (zof c) 1) (ord (zof c) 2) + tB c 3) + tB c 2) + tB c 1) + tB c 0

theorem LevGe.owedX (o o' o'' : Fin 4) : LevGe 2 (owedX c o o' o'') := by
  unfold Exch.owedX owedP
  exact ((((((((((LevGe.zero 2).add ((LevGe.tP c _ _).mono (by decide))).add ((LevGe.tP c _ _).mono (by decide))).add ((LevGe.tP c _ _).mono (by decide))).add
    ((LevGe.tP c _ _).mono (by decide))).add ((LevGe.tP c _ _).mono (by decide))).add ((LevGe.tP c _ _).mono (by decide))).add (LevGe.tX c _)).add (LevGe.tX c _)).add (LevGe.tX c _))

/-- The start of the body: the peers meet, and the device has the landing places at its three peers and its codes. -/
theorem wp_start {β : Type} (k : (Σ' (d0 : Dev nD) (v2 : BitVec 32) (v5 : BitVec 32) (v8 : BitVec 32) (v24 : IVec S512x1 32) (v29 : FVec F S512x8 .f32), FVec F S512x8 .f32) → Prog (TpuEff nD τ sig (Elt F) Λ₀ .tc) β)
    (K : Dev nD → IVec S512x1 32 → Prog (TpuEff nD τ sig (Elt F) Λ₀ .tc) β) (hk : ∀ v, k v = K v.1 (k0_pay1 v.2.2.2.2.1 v.2.2.2.2.2.1 v.2.2.2.2.2.2))
    (Q : β → sProp 𝕄) :
    iprop(recs B ∗ levAts L lv ∗ owesE c (O₀ c) ∗ sigJ c 0 ∗ sigJ c 1 ∗ sigJ c 2 ∗ sigJ c 3
        ∗ cred (tallyAt (barCell c) () 3) ∗ atPos ER (barCell c) 0 ∅ 0 ∗ aP B c)
      ⊢ iprop(((owesE c (owedX c (ord (zof c) 0) (ord (zof c) 1) (ord (zof c) 2)) ∗ atPos ER (barCell c) 1 ∅ 0
            ∗ (barPay c (ord (zof c) 0) ∗ barPay c (ord (zof c) 1) ∗ barPay c (ord (zof c) 2)) ∗ aP B c)
          -∗ wp frame (wpE (defs₀ (F := F)) 𝒱₀ (c : Thread nD τ) none) Set.univ (K c (pos B c)) Q)
          -∗ wp frame (wpE (defs₀ (F := F)) 𝒱₀ (c : Thread nD τ) none) Set.univ (startP F >>= k) Q) := by
  unfold startP O₀
  rw [wp_bind]
  simp only [Prog.lift, Prog.bind_op, Prog.bind_ret, Prog.pure_eq_ret, wp_deviceId]
  iintro ⟨#Hr, #Hl, HO, H0, H1, H2, H3, Hc, Hat, Ha⟩ Hk
  iapply (wp_sigIf B c (cond1_iff c) (fun h => dev_peer (k0_dev1_eq c))) $$ [HO H0]
  · isplitr; · iexact Hr
    isplitl [HO]; · iexact HO
    iexact H0
  iintro HO
  iapply (wp_sigIf B c (cond2_iff c) (fun h => dev_peer (k0_dev2_eq c))) $$ [HO H1]
  · isplitr; · iexact Hr
    isplitl [HO]; · iexact HO
    iexact H1
  iintro HO
  iapply (wp_sigIf B c (cond3_iff c) (fun h => dev_peer (k0_dev3_eq c))) $$ [HO H2]
  · isplitr; · iexact Hr
    isplitl [HO]; · iexact HO
    iexact H2
  iintro HO
  iapply (wp_sigIf B c (cond4_iff c) (fun h => dev_peer (k0_dev4_eq c))) $$ [HO H3]
  · isplitr; · iexact Hr
    isplitl [HO]; · iexact HO
    iexact H3
  iintro HO
  simp only [semWaitWord, Prog.lift, Prog.bind_op, Prog.bind_ret, Prog.pure_eq_ret]
  unfold owesE
  icases HO with ⟨%W, HO⟩
  ihave Hb := (ready_bar B c) $$ Hr
  unfold Ready
  icases Hb with ⟨%κ, #HI, #HR⟩
  iapply (Rounds.wp_wait_rest_token 𝒱₀ ER (rd B) (c : Thread nD τ) none (κ := κ)
      (wpE_semWait_eq 𝒱₀ (c : Thread nD τ) none Set.univ) (Set.mem_univ _) () (O := owedX c (ord (zof c) 0) (ord (zof c) 1) (ord (zof c) 2)) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barSem) _ (by rw [kindOf_bar]; exact LevGe.owedX c _ _ _)); iexact Hl
    iexact Hat
  iintro ⟨HO, Hat, -, Hp⟩
  ihave Hp := (Entails.of_eq (rest_bar B c (erase_ord (zof c)) (ord01 _) (ord02 _) (ord12 _))) $$ Hp
  iapply (wp_load_rect 𝒱₀ (c : Thread nD τ) none Set.univ (m := aM) (r := rA) (S := Finset.univ) (f := B.a c) (Finset.subset_univ _)) $$ Ha; iintro Ha
  rw [read_a, wp_ret]; imodintro
  rw [hk]
  iapply Hk
  isplitl [HO]; · iexists _; iexact HO
  isplitl [Hat]; · iexact Hat
  isplitl [Hp]; · iexact Hp
  iexact Ha

/-! ## The exchange of the device's place -/

theorem wp_branch' {me o o' o'' : Fin 4} (hme : zof c = me) (h0 : ord (zof c) 0 = o) (h1 : ord (zof c) 1 = o') (h2 : ord (zof c) 2 = o'') {n₁ n₂ n₃ n₄ n₅ n₆ n₇ n₈ n₉ : Dev nD}
    (e₁ : n₁ = peer c o) (e₂ : n₂ = peer c o') (e₃ : n₃ = peer c o'') (e₄ : n₄ = peer c o) (e₅ : n₅ = peer c o)
    (e₆ : n₆ = peer c o') (e₇ : n₇ = peer c o') (e₈ : n₈ = peer c o'') (e₉ : n₉ = peer c o'') (Q : PUnit → sProp 𝕄) :
    iprop(recs B ∗ levAts L lv ∗ selfPre B c ∗ peerPre c (ord (zof c) 0) ∗ peerPre c (ord (zof c) 1) ∗ peerPre c (ord (zof c) 2) ∗ owesE c (owedX c (ord (zof c) 0) (ord (zof c) 1) (ord (zof c) 2)))
      ⊢ iprop(((selfPost B c (outV B c)
            ∗ peerPost B c (ord (zof c) 0) ∗ peerPost B c (ord (zof c) 1) ∗ peerPost B c (ord (zof c) 2) ∗ owesE c 0) -∗ Q ⟨⟩)
          -∗ wpp c (branch (pos B c) me o o' o'' n₁ n₂ n₃ n₄ n₅ n₆ n₇ n₈ n₉) Q) := by
  subst hme h0 h1 h2
  exact wp_branch B c (ord_ne _ _) (ord_ne _ _) (ord_ne _ _) e₁ e₂ e₃ e₄ e₅ e₆ e₇ e₈ e₉ Q

/-- The exchange: the one of the four texts that is the device's runs. -/
theorem wp_rest (Q : PUnit → sProp 𝕄) :
    iprop(recs B ∗ levAts L lv ∗ selfPre B c ∗ peerPre c (ord (zof c) 0) ∗ peerPre c (ord (zof c) 1) ∗ peerPre c (ord (zof c) 2) ∗ owesE c (owedX c (ord (zof c) 0) (ord (zof c) 1) (ord (zof c) 2)))
      ⊢ iprop(((selfPost B c (outV B c)
            ∗ peerPost B c (ord (zof c) 0) ∗ peerPost B c (ord (zof c) 1) ∗ peerPost B c (ord (zof c) 2) ∗ owesE c 0) -∗ |={Set.univ}=> Q ⟨⟩)
          -∗ wpp c (rest c (pos B c)) Q) := by
  have hz : zof c = 0 ∨ zof c = 1 ∨ zof c = 2 ∨ zof c = 3 := by generalize zof c = z; revert z; decide
  unfold rest wpp
  rcases hz with hz | hz | hz | hz
  · rw [dif_pos ((cond5_iff c).mpr hz),
      dif_neg (fun h => by rw [cond6_iff, hz] at h; exact absurd h (by decide)),
      dif_neg (fun h => by rw [cond7_iff, hz] at h; exact absurd h (by decide)),
      dif_neg (fun h => by rw [cond8_iff, hz] at h; exact absurd h (by decide))]
    simp only [wp_bind, Prog.pure_eq_ret, wp_ret]
    exact wp_branch' B c (o := 1) (o' := 2) (o'' := 3) hz (by rw [hz]; rfl) (by rw [hz]; rfl) (by rw [hz]; rfl)
      (dev_peer (k0_dev5_eq c)) (dev_peer (k0_dev6_eq c)) (dev_peer (k0_dev7_eq c)) (dev_peer (k0_dev8_eq c)) (dev_peer (k0_dev9_eq c))
      (dev_peer (k0_dev10_eq c)) (dev_peer (k0_dev11_eq c)) (dev_peer (k0_dev12_eq c)) (dev_peer (k0_dev13_eq c)) (fun _ => iprop(|={Set.univ}=> Q ⟨⟩))
  · rw [dif_neg (fun h => by rw [cond5_iff, hz] at h; exact absurd h (by decide)),
      dif_pos ((cond6_iff c).mpr hz),
      dif_neg (fun h => by rw [cond7_iff, hz] at h; exact absurd h (by decide)),
      dif_neg (fun h => by rw [cond8_iff, hz] at h; exact absurd h (by decide))]
    simp only [wp_bind, Prog.pure_eq_ret, wp_ret]
    exact wp_branch' B c (o := 0) (o' := 2) (o'' := 3) hz (by rw [hz]; rfl) (by rw [hz]; rfl) (by rw [hz]; rfl)
      (dev_peer (k0_dev14_eq c)) (dev_peer (k0_dev15_eq c)) (dev_peer (k0_dev16_eq c)) (dev_peer (k0_dev17_eq c)) (dev_peer (k0_dev18_eq c))
      (dev_peer (k0_dev19_eq c)) (dev_peer (k0_dev20_eq c)) (dev_peer (k0_dev21_eq c)) (dev_peer (k0_dev22_eq c)) (fun _ => iprop(|={Set.univ}=> Q ⟨⟩))
  · rw [dif_neg (fun h => by rw [cond5_iff, hz] at h; exact absurd h (by decide)),
      dif_neg (fun h => by rw [cond6_iff, hz] at h; exact absurd h (by decide)),
      dif_pos ((cond7_iff c).mpr hz),
      dif_neg (fun h => by rw [cond8_iff, hz] at h; exact absurd h (by decide))]
    simp only [wp_bind, Prog.pure_eq_ret, wp_ret]
    exact wp_branch' B c (o := 1) (o' := 3) (o'' := 0) hz (by rw [hz]; rfl) (by rw [hz]; rfl) (by rw [hz]; rfl)
      (dev_peer (k0_dev23_eq c)) (dev_peer (k0_dev24_eq c)) (dev_peer (k0_dev25_eq c)) (dev_peer (k0_dev26_eq c)) (dev_peer (k0_dev27_eq c))
      (dev_peer (k0_dev28_eq c)) (dev_peer (k0_dev29_eq c)) (dev_peer (k0_dev30_eq c)) (dev_peer (k0_dev31_eq c)) (fun _ => iprop(|={Set.univ}=> Q ⟨⟩))
  · rw [dif_neg (fun h => by rw [cond5_iff, hz] at h; exact absurd h (by decide)),
      dif_neg (fun h => by rw [cond6_iff, hz] at h; exact absurd h (by decide)),
      dif_neg (fun h => by rw [cond7_iff, hz] at h; exact absurd h (by decide)),
      dif_pos ((cond8_iff c).mpr hz)]
    simp only [wp_bind, Prog.pure_eq_ret, wp_ret]
    exact wp_branch' B c (o := 2) (o' := 1) (o'' := 0) hz (by rw [hz]; rfl) (by rw [hz]; rfl) (by rw [hz]; rfl)
      (dev_peer (k0_dev32_eq c)) (dev_peer (k0_dev33_eq c)) (dev_peer (k0_dev34_eq c)) (dev_peer (k0_dev35_eq c)) (dev_peer (k0_dev36_eq c))
      (dev_peer (k0_dev37_eq c)) (dev_peer (k0_dev38_eq c)) (dev_peer (k0_dev39_eq c)) (dev_peer (k0_dev40_eq c)) (fun _ => iprop(|={Set.univ}=> Q ⟨⟩))

/-! ## The whole body -/

/-- The six counters of the transfers to and from the place `j`, at round `n`. -/
def at6 (j : Fin 4) (n : ℕ) : sProp 𝕄 :=
  iprop(atPos ER (sxCell c j) n ∅ 0 ∗ atPos ER (rxCell c j) n ∅ 0 ∗ atPos ER (spCell c j 0) n ∅ 0 ∗ atPos ER (spCell c j 1) n ∅ 0
    ∗ atPos ER (rpCell c j 0) n ∅ 0 ∗ atPos ER (rpCell c j 1) n ∅ 0)
/-- The same six at zero. -/
def zero6 (j : Fin 4) : sProp 𝕄 :=
  iprop(semVal (sxCell c j) 0 ∗ semVal (rxCell c j) 0 ∗ semVal (spCell c j 0) 0 ∗ semVal (spCell c j 1) 0
    ∗ semVal (rpCell c j 0) 0 ∗ semVal (rpCell c j 1) 0)
/-- The right to make the seven payments to the peer at `j` and for the transfers to it. -/
def tok7 (j : Fin 4) : sProp 𝕄 :=
  iprop(dutyTok ER (barCell (peer c j)) 0 (zof c) ∗ dutyTok ER (sxCell c j) 0 0 ∗ dutyTok ER (rxCell (peer c j) (zof c)) 0 0
    ∗ dutyTok ER (spCell c j 0) 0 0 ∗ dutyTok ER (spCell c j 1) 0 0
    ∗ dutyTok ER (rpCell (peer c j) (zof c) 0) 0 0 ∗ dutyTok ER (rpCell (peer c j) (zof c) 1) 0 0)
/-- The pieces of the scratch buffers at place `j`, whatever they hold. -/
def memJ (j : Fin 4) : sProp 𝕄 :=
  iprop(anyPts (F := F) c cc0_scratch0 (rSlot j).set ∗ anyPts (F := F) c cc0_scratch2 (rSlot j).set
    ∗ (anyPts (F := F) c cc0_scratch3 (rHalf j 0).set ∗ anyPts (F := F) c cc0_scratch3 (rHalf j 1).set)
    ∗ (anyPts (F := F) c cc0_scratch4 (rPiece j 0).set ∗ anyPts (F := F) c cc0_scratch4 (rPiece j 1).set))
/-- What the peer at `j` will credit. -/
def credJ (j : Fin 4) : sProp 𝕄 :=
  iprop(cred (tallyAt (rxCell c j) () Nx) ∗ cred (tallyAt (rpCell c j 0) () Np) ∗ cred (tallyAt (rpCell c j 1) () Np))

/-- Everything towards a peer: what goes with the signal, and, once the landing places at the peer are had, the rest. -/
theorem peer_intro (j : Fin 4) : iprop(tok7 (F := F) c j ∗ at6 c j 0 ∗ memJ c j ∗ credJ c j) ⊢ iprop(sigPre c j ∗ (barPay c j -∗ peerPre c j)) := by
  unfold tok7 at6 memJ credJ sigPre barPay peerPre preS preR preA preD
  iintro ⟨⟨Tb, Tsx, Trx, Ts0, Ts1, Tr0, Tr1⟩, ⟨Asx, Arx, As0, As1, Ar0, Ar1⟩, ⟨Ms, Mg, ⟨My0, My1⟩, ⟨Mp0, Mp1⟩⟩, ⟨Cx, C0, C1⟩⟩
  isplitl [Tb Mg Mp0 Mp1]
  · isplitl [Tb]; · iexact Tb
    isplitl [Mg]; · iexact Mg
    isplitl [Mp0]; · iexact Mp0
    iexact Mp1
  iintro ⟨Hg, Hp0, Hp1⟩
  isplitl [Ms Hg Tsx Trx]
  · isplitl [Ms]; · iexact Ms
    isplitl [Hg]; · iexact Hg
    isplitl [Tsx]; · iexact Tsx
    iexact Trx
  isplitl [Cx Arx My0 My1 Hp0 Hp1 Ts0 Ts1 Tr0 Tr1]
  · isplitl [Cx]; · iexact Cx
    isplitl [Arx]; · iexact Arx
    isplitl [My0]; · iexact My0
    isplitl [My1]; · iexact My1
    isplitl [Hp0]; · iexact Hp0
    isplitl [Hp1]; · iexact Hp1
    isplitl [Ts0]; · iexact Ts0
    isplitl [Ts1]; · iexact Ts1
    isplitl [Tr0]; · iexact Tr0
    iexact Tr1
  isplitl [C0 Ar0 C1 Ar1]
  · isplitl [C0]; · iexact C0
    isplitl [Ar0]; · iexact Ar0
    isplitl [C1]; · iexact C1
    iexact Ar1
  isplitl [Asx]; · iexact Asx
  isplitl [As0]; · iexact As0
  iexact As1

/-- The pieces of the scratch buffers at place `j` at the end, whatever they hold. -/
def memE (j : Fin 4) : sProp 𝕄 :=
  iprop(anyPts (F := F) c cc0_scratch0 (rSlot j).set ∗ anyPts (F := F) c cc0_scratch2 (rSlot j).set
    ∗ (anyPts (F := F) c cc0_scratch3 (rHalf j 0).set ∗ anyPts (F := F) c cc0_scratch3 (rHalf j 1).set)
    ∗ anyPts (F := F) c cc0_scratch4 (rBlk j).set)

/-- Everything towards a peer at the end. -/
theorem peer_elim (j : Fin 4) : peerPost B c j ⊢ iprop(at6 c j 1 ∗ memE c j) := by
  unfold peerPost postR postA postD at6 memE
  iintro ⟨⟨Arx, Mg⟩, ⟨Ar0, Ar1, Mp⟩, ⟨Asx, As0, As1, Ms, My0, My1⟩⟩
  isplitl [Asx Arx As0 As1 Ar0 Ar1]
  · isplitl [Asx]; · iexact Asx
    isplitl [Arx]; · iexact Arx
    isplitl [As0]; · iexact As0
    isplitl [As1]; · iexact As1
    isplitl [Ar0]; · iexact Ar0
    iexact Ar1
  isplitl [Ms]; · iexists _; iexact Ms
  isplitl [Mg]; · iexists _; iexact Mg
  isplitl [My0 My1]
  · isplitl [My0]; · iexists _; iexact My0
    iexists _; iexact My1
  iexists _; iexact Mp

/-- A cell with no more duties closes: its counter is at zero. -/
theorem close_cell {g : GSem nD τ sig} {n : ℕ} (h : ∀ r, n ≤ r → (rd B).duties g r = ∅) :
    iprop(Ready B g ∗ atPos ER g n ∅ 0) ⊢ iprop(|={Set.univ}=> semVal g 0) := by
  unfold Ready
  iintro ⟨⟨%κ, #HI, #HR⟩, Hat⟩
  imod (Rounds.cell_close ER (rd B) (Set.mem_univ κ) (fun h => h) (R := n) h) $$ [Hat] with Hz
  · isplitr; · iexact HI
    iexact Hat
  imodintro
  iexact Hz

/-- The six cells of a place close. -/
theorem close6 (j : Fin 4) (n : ℕ) (hn : j = zof c ∨ 1 ≤ n) : iprop(recs B ∗ at6 c j n) ⊢ iprop(|={Set.univ}=> zero6 c j) := by
  have later : ∀ g : GSem nD τ sig, 1 ≤ n → ∀ r, n ≤ r → (rd B).duties g r = ∅ := fun g h r hr => duties_later B g r (h.trans hr)
  unfold at6 zero6
  iintro ⟨#Hr, Asx, Arx, As0, As1, Ar0, Ar1⟩
  imod (close_cell B (g := sxCell c j) (n := n) (hn.elim (fun h r _ => duties_sx_self B c j h r (Nat.zero_le _)) (later _))) $$ [Asx] with Zsx
  · isplitr; · iapply (ready_sx B c j); iexact Hr
    iexact Asx
  imod (close_cell B (g := rxCell c j) (n := n) (hn.elim (fun h r _ => duties_rx_self B c j h r (Nat.zero_le _)) (later _))) $$ [Arx] with Zrx
  · isplitr; · iapply (ready_rx B c j); iexact Hr
    iexact Arx
  imod (close_cell B (g := spCell c j 0) (n := n) (hn.elim (fun h r _ => duties_sp_self B c j 0 h r (Nat.zero_le _)) (later _))) $$ [As0] with Zs0
  · isplitr; · iapply (ready_sp B c j 0); iexact Hr
    iexact As0
  imod (close_cell B (g := spCell c j 1) (n := n) (hn.elim (fun h r _ => duties_sp_self B c j 1 h r (Nat.zero_le _)) (later _))) $$ [As1] with Zs1
  · isplitr; · iapply (ready_sp B c j 1); iexact Hr
    iexact As1
  imod (close_cell B (g := rpCell c j 0) (n := n) (hn.elim (fun h r _ => duties_rp_self B c j 0 h r (Nat.zero_le _)) (later _))) $$ [Ar0] with Zr0
  · isplitr; · iapply (ready_rp B c j 0); iexact Hr
    iexact Ar0
  imod (close_cell B (g := rpCell c j 1) (n := n) (hn.elim (fun h r _ => duties_rp_self B c j 1 h r (Nat.zero_le _)) (later _))) $$ [Ar1] with Zr1
  · isplitr; · iapply (ready_rp B c j 1); iexact Hr
    iexact Ar1
  imodintro
  isplitl [Zsx]; · iexact Zsx
  isplitl [Zrx]; · iexact Zrx
  isplitl [Zs0]; · iexact Zs0
  isplitl [Zs1]; · iexact Zs1
  isplitl [Zr0]; · iexact Zr0
  iexact Zr1

/-- Four places: the device's own and its peers in their order. -/
theorem bigSep_ord (z : Fin 4) (Φ : Fin 4 → sProp 𝕄) : bigSep Finset.univ Φ = iprop(Φ z ∗ Φ (ord z 0) ∗ Φ (ord z 1) ∗ Φ (ord z 2)) := by
  rw [bigSep_univ_at Φ z, erase_ord, bigSep_insert (by simp [ord01, ord02]), bigSep_insert (by simp [ord12]), bigSep_singleton]
  rfl

/-- Four places in their own order. -/
theorem bigSep_four (Φ : Fin 4 → sProp 𝕄) : bigSep Finset.univ Φ = iprop(Φ 0 ∗ Φ 1 ∗ Φ 2 ∗ Φ 3) := by
  rw [bigSep_ord 0 Φ]; rfl

/-- The signals' parts at the three peers are the four places' parts. -/
theorem sig_all : iprop(sigPre (F := F) c (ord (zof c) 0) ∗ sigPre c (ord (zof c) 1) ∗ sigPre c (ord (zof c) 2)) ⊢ iprop(sigJ c 0 ∗ sigJ c 1 ∗ sigJ c 2 ∗ sigJ c 3) := by
  rw [← bigSep_four (sigJ (F := F) c), bigSep_ord (zof c)]
  unfold sigJ
  rw [if_pos rfl, if_neg (ord_ne _ _), if_neg (ord_ne _ _), if_neg (ord_ne _ _)]
  iintro ⟨H, H', H''⟩
  isplitr; · iempintro
  isplitl [H]; · iexact H
  isplitl [H']; · iexact H'
  iexact H''

/-- What a device starts its kernel with, -/
def res₀ : sProp 𝕄 :=
  iprop(recs B ∗ levAts L lv ∗ owesE c (O₀ c) ∗ (xP B c ∗ aP B c ∗ w1P B c ∗ w2P B c ∗ anyPts (F := F) c cc0_stg4_0 Finset.univ)
    ∗ anyPts (F := F) c cc0_scratch1 Finset.univ ∗ bigSep Finset.univ (memJ (F := F) c)
    ∗ (bigSep Finset.univ (tok7 (F := F) c) ∗ atPos ER (barCell c) 0 ∅ 0 ∗ bigSep Finset.univ (fun j => at6 (F := F) c j 0))
    ∗ cred (tallyAt (barCell c) () 3) ∗ credJ c (ord (zof c) 0) ∗ credJ c (ord (zof c) 1) ∗ credJ c (ord (zof c) 2))
/-- and what it ends with. -/
def res₁ : sProp 𝕄 :=
  iprop(owesE c 0 ∗ (xP B c ∗ aP B c ∗ w1P B c ∗ w2P B c ∗ oP c (outV B c))
    ∗ anyPts (F := F) c cc0_scratch1 Finset.univ ∗ bigSep Finset.univ (memE (F := F) c)
    ∗ semVal (barCell c) 0 ∗ bigSep Finset.univ (zero6 (F := F) c))

/-- The body of a device, from what it starts with to what it ends with. -/
theorem wp_body (Q : PUnit → sProp 𝕄) : iprop(res₀ B c ∗ (res₁ B c -∗ Q ⟨⟩)) ⊢ wpp c body Q := by
  unfold body wpp
  rw [startP_eq]
  unfold res₀
  rw [bigSep_ord (zof c) (memJ (F := F) c), bigSep_ord (zof c) (tok7 (F := F) c), bigSep_ord (zof c) (fun j => at6 (F := F) c j 0)]
  iintro ⟨⟨#Hr, #Hl, HO, ⟨Hx, Ha, H1, H2, Ho⟩, Hw, ⟨Mz, M, M', M''⟩, ⟨⟨-, T, T', T''⟩, Hb, ⟨Az, A, A', A''⟩⟩, Cb, C, C', C''⟩, Hk⟩
  ihave P := (peer_intro c (ord (zof c) 0)) $$ [T A M C]
  · isplitl [T]; · iexact T
    isplitl [A]; · iexact A
    isplitl [M]; · iexact M
    iexact C
  icases P with ⟨S, P⟩
  ihave P' := (peer_intro c (ord (zof c) 1)) $$ [T' A' M' C']
  · isplitl [T']; · iexact T'
    isplitl [A']; · iexact A'
    isplitl [M']; · iexact M'
    iexact C'
  icases P' with ⟨S', P'⟩
  ihave P'' := (peer_intro c (ord (zof c) 2)) $$ [T'' A'' M'' C'']
  · isplitl [T'']; · iexact T''
    isplitl [A'']; · iexact A''
    isplitl [M'']; · iexact M''
    iexact C''
  icases P'' with ⟨S'', P''⟩
  ihave S := (sig_all c) $$ [S S' S'']
  · isplitl [S]; · iexact S
    isplitl [S']; · iexact S'
    iexact S''
  icases S with ⟨S0, S1, S2, S3⟩
  iapply (wp_start B c _ (fun d p => rest d p) (fun v => rfl) Q) $$ [HO S0 S1 S2 S3 Cb Hb Ha]
  · isplitr; · iexact Hr
    isplitr; · iexact Hl
    isplitl [HO]; · iexact HO
    isplitl [S0]; · iexact S0
    isplitl [S1]; · iexact S1
    isplitl [S2]; · iexact S2
    isplitl [S3]; · iexact S3
    isplitl [Cb]; · iexact Cb
    isplitl [Hb]; · iexact Hb
    iexact Ha
  iintro ⟨HO, Hb, ⟨Y, Y', Y''⟩, Ha⟩
  unfold memJ
  icases Mz with ⟨Ms, Mg, My, Mp0, Mp1⟩
  iapply (wp_rest B c Q) $$ [HO Hx H1 H2 Ho Hw Mp0 Mp1 P Y P' Y' P'' Y'']
  · isplitr; · iexact Hr
    isplitr; · iexact Hl
    isplitl [Hx H1 H2 Ho Hw Mp0 Mp1]
    · unfold selfPre
      isplitl [Hx]; · iexact Hx
      isplitl [H1]; · iexact H1
      isplitl [H2]; · iexact H2
      isplitl [Ho]; · iexact Ho
      isplitl [Hw]; · iexact Hw
      isplitl [Mp0]; · iexact Mp0
      iexact Mp1
    isplitl [P Y]; · iapply P; iexact Y
    isplitl [P' Y']; · iapply P'; iexact Y'
    isplitl [P'' Y'']; · iapply P''; iexact Y''
    iexact HO
  unfold selfPost
  iintro ⟨⟨Hx, H1, H2, Ho, Hw, Hp⟩, P, P', P'', HO⟩
  ihave P := (peer_elim B c _) $$ P
  ihave P' := (peer_elim B c _) $$ P'
  ihave P'' := (peer_elim B c _) $$ P''
  icases P with ⟨A, M⟩
  icases P' with ⟨A', M'⟩
  icases P'' with ⟨A'', M''⟩
  imod (close6 B c (zof c) 0 (Or.inl rfl)) $$ [Az] with Z
  · isplitr; · iexact Hr
    iexact Az
  imod (close6 B c (ord (zof c) 0) 1 (Or.inr (Nat.le_refl 1))) $$ [A] with Z0
  · isplitr; · iexact Hr
    iexact A
  imod (close6 B c (ord (zof c) 1) 1 (Or.inr (Nat.le_refl 1))) $$ [A'] with Z1
  · isplitr; · iexact Hr
    iexact A'
  imod (close6 B c (ord (zof c) 2) 1 (Or.inr (Nat.le_refl 1))) $$ [A''] with Z2
  · isplitr; · iexact Hr
    iexact A''
  imod (close_cell B (g := barCell c) (n := 1) (duties_later B _)) $$ [Hb] with Zb
  · isplitr; · iapply (ready_bar B c); iexact Hr
    iexact Hb
  imodintro
  iapply Hk
  unfold res₁
  rw [bigSep_ord (zof c) (memE (F := F) c), bigSep_ord (zof c) (zero6 (F := F) c)]
  isplitl [HO]; · iexact HO
  isplitl [Hx Ha H1 H2 Ho]
  · isplitl [Hx]; · iexact Hx
    isplitl [Ha]; · iexact Ha
    isplitl [H1]; · iexact H1
    isplitl [H2]; · iexact H2
    iexact Ho
  isplitl [Hw]; · iexists _; iexact Hw
  isplitl [Ms Mg My Hp M M' M'']
  · isplitl [Ms Mg My Hp]
    · unfold memE
      isplitl [Ms]; · iexact Ms
      isplitl [Mg]; · iexact Mg
      isplitl [My]; · iexact My
      iexists _; iexact Hp
    isplitl [M]; · iexact M
    isplitl [M']; · iexact M'
    iexact M''
  isplitl [Zb]; · iexact Zb
  isplitl [Z]; · iexact Z
  isplitl [Z0]; · iexact Z0
  isplitl [Z1]; · iexact Z1
  iexact Z2

end Cert.KernelIdeal.Exch

end
-- ==== Proof.Launch.lean ====
/-
  Setting the exchange up: the buffers cut into pieces, the cells and the rights to pay dealt to the
  devices, and what each device is credited with.
-/
module

public import proofs.«01_k».proof.Proof.Body

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (B : Blocks F) (c : Dev nD)

/-! ## Buffers in pieces -/

theorem loc_split {ℓ : Loc nD τ sig} {T : Type} [Fintype T] [DecidableEq T] (K : T → Finset (Idx ℓ)) (hc : ∀ i, ∃ t, i ∈ K t)
    (hd : ∀ t t', t ≠ t' → Disjoint (K t) (K t')) :
    (iprop(∃ f : Buf (Elt F) ℓ, ℓ ↦[Finset.univ]{fullShare} f) : sProp 𝕄) ⊢ bigSep Finset.univ fun t => iprop(∃ f : Buf (Elt F) ℓ, ℓ ↦[K t]{fullShare} f) := by
  have hu : Finset.univ.biUnion K = Finset.univ := Finset.eq_univ_of_forall fun i => by
    obtain ⟨t, ht⟩ := hc i; exact Finset.mem_biUnion.mpr ⟨t, Finset.mem_univ _, ht⟩
  have ha (f : Buf (Elt F) ℓ) (t : T) : (ℓ ↦[K t]{fullShare} f : sProp 𝕄) ⊢ iprop(∃ f : Buf (Elt F) ℓ, ℓ ↦[K t]{fullShare} f) := by
    iintro H; iexists f; iexact H
  rw [← hu]
  iintro ⟨%f, H⟩
  ihave H := (Entails.of_eq (pointsTo_biUnion Finset.univ K fun t _ t' _ h => hd t t' h)) $$ H
  iapply (show (bigSep Finset.univ fun t => (ℓ ↦[K t]{fullShare} f : sProp 𝕄)) ⊢ bigSep Finset.univ fun t => iprop(∃ f : Buf (Elt F) ℓ, ℓ ↦[K t]{fullShare} f) from bigSep_mono fun t _ => ha f t)
  iexact H

theorem loc_join {ℓ : Loc nD τ sig} {T : Type} [Fintype T] [DecidableEq T] (t₀ : T) (K : T → Finset (Idx ℓ)) (hc : ∀ i, ∃ t, i ∈ K t)
    (hd : ∀ t t', t ≠ t' → Disjoint (K t) (K t')) [Nonempty (Buf (Elt F) ℓ)] :
    (bigSep Finset.univ fun t => iprop(∃ f : Buf (Elt F) ℓ, ℓ ↦[K t]{fullShare} f)) ⊢ (iprop(∃ f : Buf (Elt F) ℓ, ℓ ↦[Finset.univ]{fullShare} f) : sProp 𝕄) := by
  have hu : Finset.univ.biUnion K = Finset.univ := Finset.eq_univ_of_forall fun i => by
    obtain ⟨t, ht⟩ := hc i; exact Finset.mem_biUnion.mpr ⟨t, Finset.mem_univ _, ht⟩
  refine (BI.bigSep_exists_pi Finset.univ (fun (t : T) (f : Buf (Elt F) ℓ) => (ℓ ↦[K t]{fullShare} f : sProp 𝕄))).trans ?_
  iintro ⟨%fs, H⟩
  ihave H := (pointsTo_biUnion_join Finset.univ K fs (fs t₀) fun t _ t' _ h => hd t t' h) $$ H
  icases H with ⟨%g, -, H⟩
  iexists g
  rw [hu]
  iexact H

/-- A buffer is its pieces, whatever it holds; -/
theorem any_split {b : Ref sig .tc} {T : Type} [Fintype T] [DecidableEq T] (K : T → Finset b.ty.shape.Idx) (hc : ∀ i, ∃ t, i ∈ K t)
    (hd : ∀ t t', t ≠ t' → Disjoint (K t) (K t')) :
    anyPts (F := F) c b Finset.univ ⊢ bigSep Finset.univ fun t => anyPts (F := F) c b (K t) :=
  loc_split (ℓ := (c : Thread nD τ).loc b) K hc hd

/-- and its pieces are the buffer. -/
theorem any_join {b : Ref sig .tc} [Nonempty (b.ty.Contents (Elt F))] {T : Type} [Fintype T] [DecidableEq T] (t₀ : T) (K : T → Finset b.ty.shape.Idx) (hc : ∀ i, ∃ t, i ∈ K t)
    (hd : ∀ t t', t ≠ t' → Disjoint (K t) (K t')) :
    (bigSep Finset.univ fun t => anyPts (F := F) c b (K t)) ⊢ anyPts (F := F) c b Finset.univ :=
  loc_join (ℓ := (c : Thread nD τ).loc b) t₀ K hc hd

theorem slot_cover (i : S4x160x512.Idx) : ∃ j, i ∈ (rSlot j).set := ⟨i 0, by
  rw [Rect.mem_set_unit]; intro a
  match a with
  | ⟨0, _⟩ => exact (show (i 0).val ≤ (i 0).val ∧ (i 0).val < (i 0).val + 1 by omega)
  | ⟨1, _⟩ => have : (i 1).val < 160 := (i 1).isLt; exact (show 0 ≤ (i 1).val ∧ (i 1).val < 0 + 160 by omega)
  | ⟨2, _⟩ => have : (i 2).val < 512 := (i 2).isLt; exact (show 0 ≤ (i 2).val ∧ (i 2).val < 0 + 512 by omega)⟩
theorem slot_disjoint (j j' : Fin 4) (h : j ≠ j') : Disjoint (rSlot j).set (rSlot j').set := by
  have h : j.val ≠ j'.val := fun e => h (Fin.ext e)
  exact Rect.unit_disjoint (0 : Fin 3) (show j.val + 1 ≤ j'.val ∨ j'.val + 1 ≤ j.val by omega)

theorem half_cover (i : S4x160x512.Idx) : ∃ t : Fin 4 × Fin 2, i ∈ (rHalf t.1 t.2).set := by
  have h1 : (i 1).val < 160 := (i 1).isLt
  have h2 : (i 2).val < 512 := (i 2).isLt
  refine ⟨(i 0, ⟨(i 1).val / 80, by omega⟩), ?_⟩
  rw [Rect.mem_set_unit]; intro a
  match a with
  | ⟨0, _⟩ => exact (show (i 0).val ≤ (i 0).val ∧ (i 0).val < (i 0).val + 1 by omega)
  | ⟨1, _⟩ => exact (show (i 1).val / 80 * 80 ≤ (i 1).val ∧ (i 1).val < (i 1).val / 80 * 80 + 80 by omega)
  | ⟨2, _⟩ => exact (show 0 ≤ (i 2).val ∧ (i 2).val < 0 + 512 by omega)
theorem half_disjoint (t t' : Fin 4 × Fin 2) (h : t ≠ t') : Disjoint (rHalf t.1 t.2).set (rHalf t'.1 t'.2).set := by
  by_cases h0 : t.1.val = t'.1.val
  · have h1 : t.2.val ≠ t'.2.val := fun e => h (Prod.ext (Fin.ext h0) (Fin.ext e))
    exact Rect.unit_disjoint (1 : Fin 3) (show t.2.val * 80 + 80 ≤ t'.2.val * 80 ∨ t'.2.val * 80 + 80 ≤ t.2.val * 80 by omega)
  · exact Rect.unit_disjoint (0 : Fin 3) (show t.1.val + 1 ≤ t'.1.val ∨ t'.1.val + 1 ≤ t.1.val by omega)

theorem piece_cover (i : S640x512.Idx) : ∃ t : Fin 4 × Fin 2, i ∈ (rPiece t.1 t.2).set := by
  have h0 : (i 0).val < 640 := (i 0).isLt
  have h1 : (i 1).val < 512 := (i 1).isLt
  refine ⟨(⟨(i 0).val / 160, by omega⟩, ⟨(i 0).val % 160 / 80, by omega⟩), ?_⟩
  rw [Rect.mem_set_unit]; intro a
  match a with
  | ⟨0, _⟩ => exact (show (i 0).val / 160 * 160 + (i 0).val % 160 / 80 * 80 ≤ (i 0).val
      ∧ (i 0).val < (i 0).val / 160 * 160 + (i 0).val % 160 / 80 * 80 + 80 by omega)
  | ⟨1, _⟩ => exact (show 0 ≤ (i 1).val ∧ (i 1).val < 0 + 512 by omega)
theorem pieces_disjoint (t t' : Fin 4 × Fin 2) (h : t ≠ t') : Disjoint (rPiece t.1 t.2).set (rPiece t'.1 t'.2).set := by
  have h : t.1.val ≠ t'.1.val ∨ t.2.val ≠ t'.2.val := by
    by_contra hc
    push Not at hc
    exact h (Prod.ext (Fin.ext hc.1) (Fin.ext hc.2))
  have := t.2.isLt
  have := t'.2.isLt
  exact Rect.unit_disjoint (0 : Fin 2) (show t.1.val * 160 + t.2.val * 80 + 80 ≤ t'.1.val * 160 + t'.2.val * 80
    ∨ t'.1.val * 160 + t'.2.val * 80 + 80 ≤ t.1.val * 160 + t.2.val * 80 by omega)

theorem blk_cover (i : S640x512.Idx) : ∃ j : Fin 4, i ∈ (rBlk j).set := by
  have h0 : (i 0).val < 640 := (i 0).isLt
  have h1 : (i 1).val < 512 := (i 1).isLt
  refine ⟨⟨(i 0).val / 160, by omega⟩, ?_⟩
  rw [Rect.mem_set_unit]; intro a
  match a with
  | ⟨0, _⟩ => exact (show (i 0).val / 160 * 160 ≤ (i 0).val ∧ (i 0).val < (i 0).val / 160 * 160 + 160 by omega)
  | ⟨1, _⟩ => exact (show 0 ≤ (i 1).val ∧ (i 1).val < 0 + 512 by omega)
theorem blk_disjoint (j j' : Fin 4) (h : j ≠ j') : Disjoint (rBlk j).set (rBlk j').set := by
  have h : j.val ≠ j'.val := fun e => h (Fin.ext e)
  exact Rect.unit_disjoint (0 : Fin 2) (show j.val * 160 + 160 ≤ j'.val * 160 ∨ j'.val * 160 + 160 ≤ j.val * 160 by omega)

theorem bigSep_two (Φ : Fin 2 → sProp 𝕄) : bigSep Finset.univ Φ = iprop(Φ 0 ∗ Φ 1) :=
  bigSep_univ_eq_bigSepL [0, 1] (by decide) (by decide) Φ
theorem bigSep_pairs (Φ : Fin 4 × Fin 2 → sProp 𝕄) : bigSep Finset.univ Φ = bigSep Finset.univ fun j => iprop(Φ (j, 0) ∗ Φ (j, 1)) := by
  rw [bigSep_univ_prod]; exact bigSep_congr fun j _ => bigSep_two _

/-- The scratch buffers, cut for the exchange, -/
theorem scratch_split :
    iprop(anyPts (F := F) c cc0_scratch0 Finset.univ ∗ anyPts (F := F) c cc0_scratch2 Finset.univ ∗ anyPts (F := F) c cc0_scratch3 Finset.univ ∗ anyPts (F := F) c cc0_scratch4 Finset.univ)
      ⊢ bigSep Finset.univ (memJ (F := F) c) := by
  unfold memJ
  rw [bigSep_sep', bigSep_sep', bigSep_sep', ← bigSep_pairs fun t => anyPts (F := F) c cc0_scratch3 (rHalf t.1 t.2).set,
    ← bigSep_pairs fun t => anyPts (F := F) c cc0_scratch4 (rPiece t.1 t.2).set]
  exact BIClass.sep_mono (any_split c _ slot_cover slot_disjoint) (BIClass.sep_mono (any_split c _ slot_cover slot_disjoint)
    (BIClass.sep_mono (any_split c _ half_cover half_disjoint) (any_split c _ piece_cover pieces_disjoint)))

/-- and put together after it. -/
theorem scratch_join :
    bigSep Finset.univ (memE (F := F) c)
      ⊢ iprop(anyPts (F := F) c cc0_scratch0 Finset.univ ∗ anyPts (F := F) c cc0_scratch2 Finset.univ ∗ anyPts (F := F) c cc0_scratch3 Finset.univ ∗ anyPts (F := F) c cc0_scratch4 Finset.univ) := by
  unfold memE
  rw [bigSep_sep', bigSep_sep', bigSep_sep', ← bigSep_pairs fun t => anyPts (F := F) c cc0_scratch3 (rHalf t.1 t.2).set]
  exact BIClass.sep_mono (any_join c 0 _ slot_cover slot_disjoint) (BIClass.sep_mono (any_join c 0 _ slot_cover slot_disjoint)
    (BIClass.sep_mono (any_join c (0, 0) _ half_cover half_disjoint) (any_join c 0 _ blk_cover blk_disjoint)))

/-! ## The cells one by one -/

theorem sep_assoc_eq' (P Q R : sProp 𝕄) : iprop((P ∗ Q) ∗ R) = iprop(P ∗ Q ∗ R) := equiv_iff.mp ⟨BI.sep_assoc, BI.sep_assoc'⟩
theorem sep_swap (P Q : sProp 𝕄) : iprop(P ∗ Q) = iprop(Q ∗ P) := equiv_iff.mp ⟨BI.sep_comm, BI.sep_comm⟩

/-- The cells of a device: the barrier, and six at each place. -/
theorem bigSep_cells (Ψ : GSem nD τ sig → sProp 𝕄) :
    bigSep Finset.univ (fun k : Fin 25 => Ψ (kcell (c, k)))
      = iprop(Ψ (barCell c) ∗ bigSep Finset.univ fun j : Fin 4 => iprop(Ψ (sxCell c j) ∗ Ψ (rxCell c j) ∗ Ψ (spCell c j 0) ∗ Ψ (spCell c j 1) ∗ Ψ (rpCell c j 0) ∗ Ψ (rpCell c j 1))) := by
  rw [bigSep_univ_eq_bigSepL [0, 1, 5, 9, 10, 17, 18, 2, 6, 11, 12, 19, 20, 3, 7, 13, 14, 21, 22, 4, 8, 15, 16, 23, 24] (by decide) (by decide), bigSep_four]
  simp only [sep_assoc_eq']
  rfl

/-- The first summand apart. -/
theorem bigSep_fin_succ {n : ℕ} (Φ : Fin (n + 1) → sProp 𝕄) : bigSep Finset.univ Φ = iprop(Φ 0 ∗ bigSep Finset.univ fun k : Fin n => Φ k.succ) := by
  rw [Fin.univ_succ, Finset.cons_eq_insert, bigSep_insert (by simp), bigSep_map]
  rfl

/-- The counters of the exchange are the kernel's own and the barrier's. -/
theorem bigSep_sems : iprop(Pipeline.ownSems0 (Ix := Unit) (Name := ℕ) (U := UU) (Lvl := ℕ) (Val := Elt F) (τ := τ) osem c ∗ unscopedSems0 c)
    = (bigSep Finset.univ fun k : Fin 25 => semVal (kcell (c, k)) 0 : sProp 𝕄) := by
  rw [bigSep_fin_succ, sep_swap (Pipeline.ownSems0 osem c)]
  unfold unscopedSems0
  rw [bigSep_eq_bigSepL_of_eq [SemLoc.reg barSem] (by decide) (by decide)]
  refine congrArg₂ _ rfl (bigSep_congr fun k _ => ?_)
  fin_cases k <;> rfl

theorem csem_injective : Function.Injective csem := by
  have h : ∀ k k' : Fin 25, csem k = csem k' → k = k' := by decide
  exact fun k k' => h k k'

theorem kcell_injective : Function.Injective (kcell : Dev nD × Fin 25 → GSem nD τ sig) := by
  rintro ⟨c, k⟩ ⟨c', k'⟩ h
  exact Prod.ext (show c = c' from congrArg (fun g : GSem nD τ sig => g.1.1) h) (csem_injective (congrArg Prod.snd h))

/-- Every cell of the exchange. -/
def allCells : Finset (GSem nD τ sig) := Finset.univ.map ⟨kcell, kcell_injective⟩

/-- The seven payments device `x.1` makes for the place `x.2.1`. -/
def tokOf (x : Dev nD × Fin 4 × Fin 7) : GSem nD τ sig × ℕ × Fin 4 := match x.2.2 with
  | 0 => (barCell (peer x.1 x.2.1), 0, zof x.1)
  | 1 => (sxCell x.1 x.2.1, 0, 0)
  | 2 => (rxCell (peer x.1 x.2.1) (zof x.1), 0, 0)
  | 3 => (spCell x.1 x.2.1 0, 0, 0)
  | 4 => (spCell x.1 x.2.1 1, 0, 0)
  | 5 => (rpCell (peer x.1 x.2.1) (zof x.1) 0, 0, 0)
  | 6 => (rpCell (peer x.1 x.2.1) (zof x.1) 1, 0, 0)

/-- Whose payment it is, read off the cell and the duty. -/
def payer (y : GSem nD τ sig × ℕ × Fin 4) : Dev nD × Fin 4 × Fin 7 := match kindOf y.1.2 with
  | .none => (y.1.1.1, 0, 0)
  | .bar => (peer y.1.1.1 y.2.2, zof y.1.1.1, 0)
  | .sx j => (y.1.1.1, j, 1)
  | .rx j => (peer y.1.1.1 j, zof y.1.1.1, 2)
  | .sp j l => (y.1.1.1, j, ⟨3 + l.val, by omega⟩)
  | .rp j l => (peer y.1.1.1 j, zof y.1.1.1, ⟨5 + l.val, by omega⟩)

theorem payer_tokOf : Function.LeftInverse payer tokOf := by
  rintro ⟨d, j, i⟩
  have b : ∀ y : GSem nD τ sig × ℕ × Fin 4, ∀ k, kindOf y.1.2 = k → payer y = match k with
    | .none => (y.1.1.1, 0, 0)
    | .bar => (peer y.1.1.1 y.2.2, zof y.1.1.1, 0)
    | .sx j => (y.1.1.1, j, 1)
    | .rx j => (peer y.1.1.1 j, zof y.1.1.1, 2)
    | .sp j l => (y.1.1.1, j, ⟨3 + l.val, by omega⟩)
    | .rp j l => (peer y.1.1.1 j, zof y.1.1.1, ⟨5 + l.val, by omega⟩) := fun y k h => by subst h; rfl
  fin_cases i
  · refine (b _ _ kindOf_bar).trans ?_
    show (peer (peer d j) (zof d), zof (peer d j), (0 : Fin 7)) = _
    rw [peer_back, zof_peer]; rfl
  · exact b (sxCell d j, 0, 0) _ (kindOf_sx j)
  · refine (b _ _ (kindOf_rx (zof d))).trans ?_
    show (peer (peer d j) (zof d), zof (peer d j), (2 : Fin 7)) = _
    rw [peer_back, zof_peer]; rfl
  · exact b (spCell d j 0, 0, 0) _ (kindOf_sp j 0)
  · exact b (spCell d j 1, 0, 0) _ (kindOf_sp j 1)
  · refine (b _ _ (kindOf_rp (zof d) 0)).trans ?_
    show (peer (peer d j) (zof d), zof (peer d j), (5 : Fin 7)) = _
    rw [peer_back, zof_peer]; rfl
  · refine (b _ _ (kindOf_rp (zof d) 1)).trans ?_
    show (peer (peer d j) (zof d), zof (peer d j), (6 : Fin 7)) = _
    rw [peer_back, zof_peer]; rfl

/-- Every payment of the exchange. -/
def allToks : Finset (GSem nD τ sig × ℕ × Fin 4) := Finset.univ.map ⟨tokOf, payer_tokOf.injective⟩

/-- The resources the launch starts with: the pipeline's and the exchange's. -/
def u₀ : UU := (initOf (Pipeline.cells cfgs cellOf_inj) (Pipeline.launchToks cfgs cellOf_inj), initOf allCells allToks)

/-- What the launch deals device `c`. -/
def G : sProp 𝕄 :=
  iprop((bigSep Finset.univ fun k : Fin 25 => roundState ER (rd B) (kcell (c, k)) 0)
    ∗ (bigSep Finset.univ fun k : Fin 25 => atPos ER (kcell (c, k)) 0 ∅ 0) ∗ (bigSep Finset.univ fun k : Fin 25 => reached ER (kcell (c, k)) 0)
    ∗ bigSep Finset.univ (tok7 (F := F) c))

theorem deal : BI.own (ER (initOf allCells allToks)) ⊢ (|==> bigSep Finset.univ (G B) : sProp 𝕄) := by
  have hX (Φ : GSem nD τ sig → sProp 𝕄) : bigSep allCells Φ = bigSep Finset.univ fun c : Dev nD => bigSep Finset.univ fun k : Fin 25 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ (tok7 (F := F) c) := by
    unfold allToks; rw [bigSep_map, bigSep_univ_prod]
    refine bigSep_congr fun c _ => ?_
    rw [bigSep_univ_prod]
    refine bigSep_congr fun j _ => ?_
    rw [bigSep_univ_eq_bigSepL [0, 1, 2, 3, 4, 5, 6] (by decide) (by decide)]
    rfl
  iintro HX
  imod (Rounds.fund ER (rd B) allCells allToks) $$ HX with ⟨Hst, Hr, Hat, Htok⟩
  imodintro
  ihave Hst' := (Entails.of_eq (hX fun g => roundState ER (rd B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- What a device has of the exchange once every cell is set up. -/
def ghost : sProp 𝕄 :=
  iprop(recs B ∗ bigSep Finset.univ (tok7 (F := F) c) ∗ atPos ER (barCell c) 0 ∅ 0 ∗ bigSep Finset.univ (fun j => at6 (F := F) c j 0))

/-- A cell whose invariant is there and which stands at its first round is set up. -/
theorem one_ready (g : GSem nD τ sig) : iprop((∃ κ : ℕ, cellInv ER (rd B) κ g) ∗ reached ER g 0) ⊢ (Ready B g : sProp 𝕄) := by
  unfold Ready
  iintro ⟨⟨%κ, H⟩, H'⟩
  iexists κ
  isplitl [H] <;> iassumption

/-- So are all the cells of a device. -/
theorem all_ready :
    iprop((bigSep Finset.univ fun k : Fin 25 => iprop(∃ κ : ℕ, cellInv ER (rd B) κ (kcell (c, k)))) ∗ bigSep Finset.univ fun k : Fin 25 => reached ER (kcell (c, k)) 0)
      ⊢ (bigSep Finset.univ fun k => Ready B (kcell (c, k)) : sProp 𝕄) := by
  rw [← bigSep_sep']
  exact bigSep_mono fun k _ => one_ready B (kcell (c, k))

/-- A device's cells are set up. -/
theorem set_up :
    iprop(Pipeline.ownSems0 (Ix := Unit) (Name := ℕ) (U := UU) (Lvl := ℕ) (Val := Elt F) (τ := τ) osem c ∗ unscopedSems0 c ∗ G B c)
      ⊢ |={Set.univ}=> iprop((bigSep Finset.univ fun k => Ready B (kcell (c, k)))
          ∗ (atPos ER (barCell c) 0 ∅ 0 ∗ bigSep Finset.univ (fun j => at6 (F := F) c j 0)) ∗ bigSep Finset.univ (tok7 (F := F) c)) := by
  unfold G
  iintro ⟨Hos, Hus, Hst, Hat, Hr, Htok⟩
  ihave Hv := (Entails.of_eq (bigSep_sems (F := F) c)) $$ [Hos Hus]
  · isplitl [Hos] <;> iassumption
  imod (show iprop((bigSep Finset.univ fun k : Fin 25 => semVal (kcell (c, k)) 0) ∗ bigSep Finset.univ fun k : Fin 25 => roundState ER (rd B) (kcell (c, k)) 0)
      ⊢ (|={Set.univ}=> bigSep Finset.univ fun k => iprop(∃ κ : ℕ, cellInv ER (rd B) κ (kcell (c, k))) : sProp 𝕄) from by
        rw [← bigSep_sep']
        exact (bigSep_mono fun k _ => (Rounds.body_intro ER (rd B) (kcell (c, k))).trans inv_alloc).trans (bigSep_fupd _ _)) $$ [Hv Hst] with Hinv
  · isplitl [Hv] <;> iassumption
  imodintro
  isplitl [Hinv Hr]
  · iapply (all_ready B c)
    isplitl [Hinv] <;> iassumption
  isplitl [Hat]
  · ihave H := (Entails.of_eq (bigSep_cells c fun g => atPos ER g 0 ∅ 0)) $$ Hat
    unfold at6
    iexact H
  iexact Htok

/-- What holds for good may be used at every summand. -/
theorem bigSep_given {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What one device keeps of its cells. -/
def kept : sProp 𝕄 :=
  iprop((atPos ER (barCell c) 0 ∅ 0 ∗ bigSep Finset.univ (fun j => at6 (F := F) c j 0)) ∗ bigSep Finset.univ (tok7 (F := F) c))

theorem ghost_intro : iprop(recs B ∗ kept (F := F) c) ⊢ ghost B c := by
  unfold ghost kept
  iintro ⟨#Hr, ⟨Hb, Ha⟩, Ht⟩
  isplitr; · iexact Hr
  isplitl [Ht]; · iexact Ht
  isplitl [Hb]; · iexact Hb
  iexact Ha

theorem ghost_all : (bigSep Finset.univ fun c => iprop((bigSep Finset.univ fun k => Ready B (kcell (c, k))) ∗ kept (F := F) c) : sProp 𝕄)
    ⊢ bigSep Finset.univ (ghost B) := by
  rw [bigSep_sep', ← bigSep_univ_prod (fun ck : Dev nD × Fin 25 => Ready B (kcell ck))]
  exact bigSep_given (R := recs B) fun c _ => ghost_intro B c

/-- Every cell of every device is set up, and every device knows it. -/
theorem set_up_all : (bigSep Finset.univ fun c => iprop(Pipeline.ownSems0 (Ix := Unit) (Name := ℕ) (U := UU) (Lvl := ℕ) (Val := Elt F) (τ := τ) osem c ∗ unscopedSems0 c ∗ G B c) : sProp 𝕄)
    ⊢ |={Set.univ}=> bigSep Finset.univ (ghost B) :=
  ((bigSep_mono fun c _ => set_up B c).trans (bigSep_fupd _ _)).trans (BI.fupd_mono (ghost_all B))

end Cert.KernelIdeal.Exch

end
-- ==== Proof.Credits.lean ====
/-
  What each device is credited with when the exchange starts: one landing of each kind from every
  peer, and three signals.
-/
module

public import proofs.«01_k».proof.Proof.Launch

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-- What device `d` owes towards its peer at the place `j`. -/
def due (d : Dev nD) (j : Fin 4) : CellTallies nD τ sig Unit :=
  tX d j + tP d j 0 + tP d j 1 + tallyAt (barCell (peer d j)) () 1

/-- A sum over the places other than one's own is one over the peers in the order they are met. -/
theorem sum_ord {A : Type} [AddCommMonoid A] (z : Fin 4) (f : Fin 4 → A) :
    (∑ j, if j = z then 0 else f j) = f (ord z 0) + f (ord z 1) + f (ord z 2) := by
  have h (i : Fin 3) : (if ord z i = z then 0 else f (ord z i)) = f (ord z i) := if_neg (ord_ne z i)
  rw [← Finset.sum_erase (a := z) (f := fun j => if j = z then 0 else f j) Finset.univ (if_pos rfl), show Finset.univ.erase z = {ord z 0, ord z 1, ord z 2} from by clear h; revert z; decide,
    Finset.sum_insert (by clear h; revert z; decide), Finset.sum_insert (by clear h; revert z; decide), Finset.sum_singleton, h, h, h, add_assoc]

/-- What a device owes is what it owes its peers. -/
theorem O₀_eq (d : Dev nD) : O₀ d = ∑ j, if j = zof d then 0 else due d j := by
  have hB : (∑ j, if j = zof d then 0 else (tallyAt (barCell (peer d j)) () 1 : CellTallies nD τ sig Unit)) = tB d 0 + tB d 1 + tB d 2 + tB d 3 := by
    rw [Fin.sum_univ_four]
  have hX := sum_ord (zof d) fun j => tX d j + tP d j 0 + tP d j 1
  have hs : (∑ j, if j = zof d then 0 else due d j) = (∑ j, if j = zof d then 0 else (tX d j + tP d j 0 + tP d j 1))
      + ∑ j, if j = zof d then 0 else (tallyAt (barCell (peer d j)) () 1 : CellTallies nD τ sig Unit) := by
    rw [← Finset.sum_add_distrib]
    refine Finset.sum_congr rfl fun j _ => ?_
    by_cases h : j = zof d
    · rw [if_pos h, if_pos h, if_pos h, add_zero]
    · rw [if_neg h, if_neg h, if_neg h]; rfl
  rw [hs, hB, hX]
  unfold O₀ owedX owedP
  rw [zero_add]
  ac_rfl

theorem O₀_apply (d : Dev nD) (g : GSem nD τ sig) : O₀ d g () = ∑ j, if j = zof d then 0 else due d j g () := by
  rw [O₀_eq, Finset.sum_apply, Finsupp.finset_sum_apply]
  refine Finset.sum_congr rfl fun j _ => ?_
  split <;> rfl

theorem due_apply (d : Dev nD) (j : Fin 4) (g : GSem nD τ sig) : due d j g () = tX d j g () + tP d j 0 g () + tP d j 1 g () + (tallyAt (barCell (peer d j)) () 1 : CellTallies nD τ sig Unit) g () := rfl

/-- A cell of another kind gets nothing. -/
theorem tally_kind {g g' : GSem nD τ sig} {N : ℕ} (h : kindOf g.2 ≠ kindOf g'.2) : (tallyAt g' () N : CellTallies nD τ sig Unit) g () = 0 := by
  rw [tallyAt_apply, if_neg]
  rintro ⟨rfl, -⟩
  exact h rfl

/-- Only the peer at the place `j` owes the landing there. -/
theorem sum_peers (c : Dev nD) (j : Fin 4) (hj : j ≠ zof c) (N : ℕ) :
    (∑ d, ∑ j', if j' = zof d then 0 else if c = peer d j' ∧ j = zof d then N else 0) = N := by
  rw [Finset.sum_eq_single (peer c j), Finset.sum_eq_single (zof c)]
  · rw [zof_peer, if_neg hj.symm, if_pos ⟨(peer_back c j).symm, rfl⟩]
  · intro j' _ h
    rw [if_neg fun e : c = peer (peer c j) j' ∧ _ => h (by rw [e.1.symm.trans (e.1.trans rfl)] at *; have := congrArg zof e.1; rw [zof_peer] at this; exact this.symm)]
    exact ite_self _
  · exact fun h => absurd (Finset.mem_univ _) h
  · intro d _ h
    refine Finset.sum_eq_zero fun j' _ => ?_
    rw [if_neg fun e : c = peer d j' ∧ j = zof d => h (by rw [e.1, e.2, peer_back])]
    exact ite_self _
  · exact fun h => absurd (Finset.mem_univ _) h

theorem sum_signals (c : Dev nD) : (∑ d : Dev nD, ∑ j' : Fin 4, if j' = zof d then 0 else if c = peer d j' then 1 else 0) = 3 := by
  revert c; decide +kernel

theorem rx_eq_iff {a b : Dev nD} {i j : Fin 4} : (rxCell a i = rxCell b j) ↔ a = b ∧ i = j := by
  constructor
  · intro h
    have h2 := congrArg (fun g : GSem nD τ sig => kindOf g.2) h
    simp only [kindOf_rx] at h2
    exact ⟨congrArg (fun g : GSem nD τ sig => g.1.1) h, Kind.rx.inj h2⟩
  · rintro ⟨rfl, rfl⟩; rfl

theorem rp_eq_iff {a b : Dev nD} {i j : Fin 4} {l l' : Fin 2} : (rpCell a i l = rpCell b j l') ↔ a = b ∧ i = j ∧ l = l' := by
  constructor
  · intro h
    have h2 := congrArg (fun g : GSem nD τ sig => kindOf g.2) h
    simp only [kindOf_rp] at h2
    exact ⟨congrArg (fun g : GSem nD τ sig => g.1.1) h, Kind.rp.inj h2⟩
  · rintro ⟨rfl, rfl, rfl⟩; rfl

theorem bar_eq_iff {a b : Dev nD} : (barCell a = barCell b) ↔ a = b :=
  ⟨fun h => congrArg (fun g : GSem nD τ sig => g.1.1) h, fun h => h ▸ rfl⟩

theorem due_rx (c d : Dev nD) (j j' : Fin 4) : due d j' (rxCell c j) () = if c = peer d j' ∧ j = zof d then Nx else 0 := by
  rw [due_apply]
  unfold tX tP
  rw [tally_kind (g := rxCell c j) (g' := rpCell (peer d j') (zof d) 0) (by rw [kindOf_rx, kindOf_rp]; exact nofun),
    tally_kind (g := rxCell c j) (g' := rpCell (peer d j') (zof d) 1) (by rw [kindOf_rx, kindOf_rp]; exact nofun),
    tally_kind (g := rxCell c j) (g' := barCell (peer d j')) (by rw [kindOf_rx, kindOf_bar]; exact nofun), tallyAt_apply]
  simp only [rx_eq_iff, and_true, Nat.add_zero]

theorem due_rp (c d : Dev nD) (j j' : Fin 4) (l : Fin 2) : due d j' (rpCell c j l) () = if c = peer d j' ∧ j = zof d then Np else 0 := by
  rw [due_apply]
  unfold tX tP
  rw [tally_kind (g := rpCell c j l) (g' := rxCell (peer d j') (zof d)) (by rw [kindOf_rx, kindOf_rp]; exact nofun),
    tally_kind (g := rpCell c j l) (g' := barCell (peer d j')) (by rw [kindOf_rp, kindOf_bar]; exact nofun), tallyAt_apply, tallyAt_apply]
  simp only [rp_eq_iff, and_true, Nat.add_zero, Nat.zero_add]
  generalize Np = n
  fin_cases l <;> by_cases h : c = peer d j' ∧ j = zof d <;> simp [h, ← and_assoc]

theorem due_bar (c d : Dev nD) (j' : Fin 4) : due d j' (barCell c) () = if c = peer d j' then 1 else 0 := by
  rw [due_apply]
  unfold tX tP
  rw [tally_kind (g := barCell c) (g' := rxCell (peer d j') (zof d)) (by rw [kindOf_rx, kindOf_bar]; exact nofun),
    tally_kind (g := barCell c) (g' := rpCell (peer d j') (zof d) 0) (by rw [kindOf_bar, kindOf_rp]; exact nofun),
    tally_kind (g := barCell c) (g' := rpCell (peer d j') (zof d) 1) (by rw [kindOf_bar, kindOf_rp]; exact nofun), tallyAt_apply]
  simp only [bar_eq_iff, and_true, Nat.zero_add]

/-- A cell's credit at the launch, from what is owed to it. -/
theorem launch_of {g : GSem nD τ sig} {N : ℕ} (h : (∑ d, O₀ d g ()) = N) :
    tallyOn g (launchCredit (Pipeline.owing O₀) 0 g) = (tallyAt g () N : CellTallies nD τ sig Unit) := by
  unfold tallyAt; refine congrArg _ (Finsupp.ext fun u => ?_); cases u
  rw [Pipeline.launchCredit_owing, Finsupp.single_eq_same, h]

theorem launch_rx (c : Dev nD) (j : Fin 4) (hj : j ≠ zof c) :
    tallyOn (rxCell c j) (launchCredit (Pipeline.owing O₀) 0 (rxCell c j)) = (tallyAt (rxCell c j) () Nx : CellTallies nD τ sig Unit) :=
  launch_of (by simp only [O₀_apply, due_rx]; exact sum_peers c j hj Nx)
theorem launch_rp (c : Dev nD) (j : Fin 4) (l : Fin 2) (hj : j ≠ zof c) :
    tallyOn (rpCell c j l) (launchCredit (Pipeline.owing O₀) 0 (rpCell c j l)) = (tallyAt (rpCell c j l) () Np : CellTallies nD τ sig Unit) :=
  launch_of (by simp only [O₀_apply, due_rp]; exact sum_peers c j hj Np)
theorem launch_bar (c : Dev nD) :
    tallyOn (barCell c) (launchCredit (Pipeline.owing O₀) 0 (barCell c)) = (tallyAt (barCell c) () 3 : CellTallies nD τ sig Unit) :=
  launch_of (by simp only [O₀_apply, due_bar]; exact sum_signals c)

/-- What the launch credits a device with holds what the exchange spends. -/
theorem creds (c : Dev nD) : (Pipeline.launchCred O₀ c : sProp 𝕄)
    ⊢ iprop(cred (tallyAt (barCell c) () 3) ∗ credJ (F := F) c (ord (zof c) 0) ∗ credJ (F := F) c (ord (zof c) 1) ∗ credJ (F := F) c (ord (zof c) 2)) := by
  unfold Pipeline.launchCred
  refine (bigSep_subset (Finset.subset_univ (Finset.univ.map ⟨csem, csem_injective⟩))).trans ?_
  rw [bigSep_map]
  refine (Entails.of_eq (bigSep_cells c fun g => cred (tallyOn g (launchCredit (Pipeline.owing O₀) 0 g)))).trans ?_
  rw [launch_bar, bigSep_ord (zof c)]
  have h (j : Fin 4) (hj : j ≠ zof c) :
      (iprop(cred (tallyOn (sxCell c j) (launchCredit (Pipeline.owing O₀) 0 (sxCell c j))) ∗ cred (tallyOn (rxCell c j) (launchCredit (Pipeline.owing O₀) 0 (rxCell c j)))
        ∗ cred (tallyOn (spCell c j 0) (launchCredit (Pipeline.owing O₀) 0 (spCell c j 0))) ∗ cred (tallyOn (spCell c j 1) (launchCredit (Pipeline.owing O₀) 0 (spCell c j 1)))
        ∗ cred (tallyOn (rpCell c j 0) (launchCredit (Pipeline.owing O₀) 0 (rpCell c j 0))) ∗ cred (tallyOn (rpCell c j 1) (launchCredit (Pipeline.owing O₀) 0 (rpCell c j 1)))) : sProp 𝕄)
      ⊢ credJ (F := F) c j := by
    rw [launch_rx c j hj, launch_rp c j 0 hj, launch_rp c j 1 hj]
    unfold credJ
    iintro ⟨-, Hx, -, -, H0, H1⟩
    isplitl [Hx]; · iexact Hx
    isplitl [H0] <;> iassumption
  iintro ⟨Hb, -, H0, H1, H2⟩
  isplitl [Hb]; · iexact Hb
  isplitl [H0]; · iapply (h _ (ord_ne _ _)) $$ H0
  isplitl [H1]; · iapply (h _ (ord_ne _ _)) $$ H1
  iapply (h _ (ord_ne _ _)) $$ H2

end Cert.KernelIdeal.Exch

end
-- ==== Proof.Run.lean ====
/-
  The run of the kernel on the whole mesh.
-/
module

public import proofs.«01_k».proof.Proof.Credits
public import proofs.«01_k».proof.Proof.Gen.KernelIdeal.Frame
public import Idealize.ShloMosaic.Lib.Pipeline.CollectiveSegs

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The blocks the devices start with. -/
def Bl : Blocks F where
  x c := iblk m c 0 t0_0
  a c := iblk m c 1 t0_0
  w1 c := iblk m c 2 t0_0
  w2 c := iblk m c 3 t0_0

/-- What a device starts the kernel with, the buffers apart. -/
def start (c : Dev nD) : sProp 𝕄 :=
  iprop(ghost (Bl m) c ∗ (cred (tallyAt (barCell c) () 3) ∗ credJ (F := F) c (ord (zof c) 0) ∗ credJ (F := F) c (ord (zof c) 1) ∗ credJ (F := F) c (ord (zof c) 2)) ∗ levAts L lv)

/-- What the kernel is entered with, -/
def Φ₀ (c : Dev nD) : sProp 𝕄 := iprop(start m c ∗ anyPts (F := F) c cc0_scratch1 Finset.univ ∗ bigSep Finset.univ (memJ (F := F) c))
/-- and what it leaves. -/
def Φ₁ (c : Dev nD) : sProp 𝕄 :=
  iprop(anyPts (F := F) c cc0_scratch1 Finset.univ ∗ bigSep Finset.univ (memE (F := F) c) ∗ semVal (barCell c) 0 ∗ bigSep Finset.univ (zero6 (F := F) c))

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => (Bl m).x c
    | ⟨1, _⟩ => (Bl m).a c
    | ⟨2, _⟩ => (Bl m).w1 c
    | ⟨3, _⟩ => (Bl m).w2 c
    | ⟨4, _⟩ => outV (Bl m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- A staging buffer at given contents. -/
abbrev stgAt (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem stg_elim (c : Dev nD) (b : Ref sig .tc) (X : b.ty.Contents (Elt F)) : stgAt c b X ⊢ pts (F := F) c b Finset.univ X := by
  iintro ⟨%f, %h, H⟩
  subst h
  iexact H
theorem stg_intro (c : Dev nD) (b : Ref sig .tc) (X : b.ty.Contents (Elt F)) : pts (F := F) c b Finset.univ X ⊢ stgAt c b X := by
  iintro H
  iexists X
  isplitr
  · ipureintro; rfl
  iexact H

theorem before_0 (c : Dev nD) (d) : (dats m ρ 0 c).before (0 : Fin 5) t0_0 d = (Bl m).x c := by
  unfold Pipeline.Dat.before; rw [if_pos (fetch0_0 t0_0)]; rfl
theorem before_1 (c : Dev nD) (d) : (dats m ρ 0 c).before (1 : Fin 5) t0_0 d = (Bl m).a c := by
  unfold Pipeline.Dat.before; rw [if_pos (fetch0_1 t0_0)]; rfl
theorem before_2 (c : Dev nD) (d) : (dats m ρ 0 c).before (2 : Fin 5) t0_0 d = (Bl m).w1 c := by
  unfold Pipeline.Dat.before; rw [if_pos (fetch0_2 t0_0)]; rfl
theorem before_3 (c : Dev nD) (d) : (dats m ρ 0 c).before (3 : Fin 5) t0_0 d = (Bl m).w2 c := by
  unfold Pipeline.Dat.before; rw [if_pos (fetch0_3 t0_0)]; rfl

set_option maxRecDepth 4000 in
def bodyPre (c : Dev nD) : sProp 𝕄 :=
  iprop(Φ₀ m c ∗ (dats m ρ 0 c).owesAt () t0_0.castSucc
    ∗ (∃ d, stgAt c cc0_stg0_0 ((dats m ρ 0 c).before (0 : Fin 5) t0_0 d)) ∗ (∃ d, stgAt c cc0_stg1_0 ((dats m ρ 0 c).before (1 : Fin 5) t0_0 d))
    ∗ (∃ d, stgAt c cc0_stg2_0 ((dats m ρ 0 c).before (2 : Fin 5) t0_0 d)) ∗ (∃ d, stgAt c cc0_stg3_0 ((dats m ρ 0 c).before (3 : Fin 5) t0_0 d))
    ∗ (∃ d, stgAt c cc0_stg4_0 ((dats m ρ 0 c).before (4 : Fin 5) t0_0 d)))

set_option maxRecDepth 4000 in
def bodyPost (c : Dev nD) : sProp 𝕄 :=
  iprop(Φ₁ (F := F) c ∗ (dats m ρ 0 c).owesAt () t0_0.succ
    ∗ stgAt c cc0_stg0_0 ((Bl m).x c) ∗ stgAt c cc0_stg1_0 ((Bl m).a c) ∗ stgAt c cc0_stg2_0 ((Bl m).w1 c) ∗ stgAt c cc0_stg3_0 ((Bl m).w2 c)
    ∗ stgAt c cc0_stg4_0 (outV (Bl m) c))

/-- The kernel's first holdings are those its body is proved from. -/
theorem pre_elim (c : Dev nD) : bodyPre m ρ c ⊢ res₀ (Bl m) c := by
  unfold bodyPre Φ₀ start ghost res₀ Pipeline.Dat.owesAt Pipeline.owesWithin owesE xP aP w1P w2P
  simp only [before_0, before_1, before_2, before_3]
  iintro ⟨⟨⟨⟨Hr, Ht, Hb, Ha⟩, ⟨Cb, C0, C1, C2⟩, Hl⟩, Hw, Hm⟩, ⟨%W, -, HO⟩, ⟨%d0, H0⟩, ⟨%d1, H1⟩, ⟨%d2, H2⟩, ⟨%d3, H3⟩, ⟨%d4, H4⟩⟩
  isplitl [Hr]; · iexact Hr
  isplitl [Hl]; · iexact Hl
  isplitl [HO]; · iexists W; iexact HO
  isplitl [H0 H1 H2 H3 H4]
  · isplitl [H0]; · iapply (stg_elim c cc0_stg0_0 ((Bl m).x c)) $$ H0
    isplitl [H1]; · iapply (stg_elim c cc0_stg1_0 ((Bl m).a c)) $$ H1
    isplitl [H2]; · iapply (stg_elim c cc0_stg2_0 ((Bl m).w1 c)) $$ H2
    isplitl [H3]; · iapply (stg_elim c cc0_stg3_0 ((Bl m).w2 c)) $$ H3
    icases H4 with ⟨%f, -, H4⟩
    iexists f
    iexact H4
  isplitl [Hw]; · iexact Hw
  isplitl [Hm]; · iexact Hm
  isplitl [Ht Hb Ha]
  · isplitl [Ht]; · iexact Ht
    isplitl [Hb] <;> iassumption
  isplitl [Cb]; · iexact Cb
  isplitl [C0]; · iexact C0
  isplitl [C1] <;> iassumption

/-- What the body ends with is what the kernel leaves. -/
theorem post_intro (c : Dev nD) : res₁ (Bl m) c ⊢ bodyPost m ρ c := by
  unfold bodyPost Φ₁ res₁ Pipeline.Dat.owesAt Pipeline.owesWithin owesE xP aP w1P w2P oP
  iintro ⟨⟨%W, HO⟩, ⟨H0, H1, H2, H3, H4⟩, Hw, Hm, Hb, Hz⟩
  isplitl [Hw Hm Hb Hz]
  · isplitl [Hw]; · iexact Hw
    isplitl [Hm]; · iexact Hm
    isplitl [Hb] <;> iassumption
  isplitl [HO]
  · iexists W
    isplitr
    · ipureintro; exact fun _ _ => Or.inl trivial
    iexact HO
  isplitl [H0]; · iapply (stg_intro c cc0_stg0_0 ((Bl m).x c)) $$ H0
  isplitl [H1]; · iapply (stg_intro c cc0_stg1_0 ((Bl m).a c)) $$ H1
  isplitl [H2]; · iapply (stg_intro c cc0_stg2_0 ((Bl m).w1 c)) $$ H2
  isplitl [H3]; · iapply (stg_intro c cc0_stg3_0 ((Bl m).w2 c)) $$ H3
  iapply (stg_intro c cc0_stg4_0 (outV (Bl m) c)) $$ H4

set_option maxRecDepth 4000 in
/-- The kernel meets its specification on every device. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (bodyAt0 (F := F) t0_0) (fun _ => bodyPost m ρ c)
  rw [body_eq]
  iintro H
  iapply (wp_body (Bl m) c fun _ => bodyPost m ρ c)
  isplitl [H]
  · iapply (pre_elim m ρ c) $$ H
  · iintro H'
    iapply (post_intro m ρ c) $$ H'

/-! ## The launch -/

theorem ownSemFacts : Pipeline.OwnSemFacts cfg0.spec osem := by decide

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost (Bl m) c)
      ⊢ |={Set.univ}=> iprop(start m c ∗ emp) := by
  iintro ⟨-, Hl, Hc, -, HG⟩
  ihave Hc' := (creds (F := F) c) $$ Hc
  imodintro
  unfold start
  isplitl
  · isplitl [HG]; · iexact HG
    isplitl [Hc'] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1, H2, H3, H4⟩
  isplitl [Hs]; · iexact Hs
  isplitl [H1]; · iexact H1
  iapply (scratch_split (F := F) c)
  isplitl [H0]; · iexact H0
  isplitl [H2]; · iexact H2
  isplitl [H3] <;> iassumption

theorem sems_back (c : Dev nD) : iprop(semVal (barCell c) 0 ∗ bigSep Finset.univ (zero6 (F := F) c))
    ⊢ (iprop(Pipeline.ownSems0 (Ix := Unit) (Name := ℕ) (U := UU) (Lvl := ℕ) (Val := Elt F) (τ := τ) osem c ∗ unscopedSems0 c) : sProp 𝕄) := by
  rw [bigSep_sems, bigSep_cells c fun g => semVal g 0]
  unfold zero6
  exact .rfl

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hw, Hm, Hb, Hz⟩
  ihave Hs := (sems_back (F := F) c) $$ [Hb Hz]
  · isplitl [Hb] <;> iassumption
  icases Hs with ⟨Ho, Hu⟩
  ihave Hm' := (scratch_join (F := F) c) $$ Hm
  icases Hm' with ⟨H0, H2, H3, H4⟩
  isplitl [Hu]; · iexact Hu
  isplitl [Ho]; · iexact Ho
  isplitl [H0]; · iexact H0
  isplitl [Hw]; · iexact Hw
  isplitl [H2]; · iexact H2
  isplitl [H3] <;> iassumption

theorem LevGe.O₀ (c : Dev nD) : LevGe 1 (O₀ c) := by
  unfold Exch.O₀
  exact (((((LevGe.owedX c _ _ _).mono (by decide)).add (LevGe.tB c 3)).add (LevGe.tB c 2)).add (LevGe.tB c 1)).add (LevGe.tB c 0)

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      have hk : kindOf (.dma (((cfgs 0).win w).sem s)) = .none := by fin_cases w <;> fin_cases s <;> decide
      rw [hk]
      rcases t with ⟨_ | _, ht⟩
      · exact LevGe.O₀ c
      · exact LevGe.zero _)

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair run of the kernel on the mesh ends, each window's array at the contents the exchange gives
    it and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Bl m)) (G' := ghost (Bl m)) (u₀ := u₀)
    (hu₀ := by
      unfold u₀
      iintro Hu
      ihave H := (ownU_pair _ _) $$ Hu
      icases H with ⟨HP, HX⟩
      imod (deal (Bl m)) $$ HX with HG
      imodintro
      isplitl [HP] <;> iassumption)
    (hglob := set_up_all (Bl m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exch

end
-- ==== Proof.Frames.lean ====
/-
  The run read at the argument arrays and at the result: the frames.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.KernelIdeal.Exch

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- An argument's array is after the run what it was before. -/
theorem finalA_0 (c : Dev nD) : finalA m ρ c (0 : Fin 5) = m ((c : Thread nD τ).loc main_arg0) := (dats m ρ 0 c).arrAt_in (0 : Fin 5) rfl _
theorem finalA_1 (c : Dev nD) : finalA m ρ c (1 : Fin 5) = m ((c : Thread nD τ).loc main_arg1) := (dats m ρ 0 c).arrAt_in (1 : Fin 5) rfl _
theorem finalA_2 (c : Dev nD) : finalA m ρ c (2 : Fin 5) = m ((c : Thread nD τ).loc main_arg2) := (dats m ρ 0 c).arrAt_in (2 : Fin 5) rfl _
theorem finalA_3 (c : Dev nD) : finalA m ρ c (3 : Fin 5) = m ((c : Thread nD τ).loc main_arg3) := (dats m ρ 0 c).arrAt_in (3 : Fin 5) rfl _

/-- The result's array is what the kernel left in its buffer. -/
theorem finalA_4 (c : Dev nD) : finalA m ρ c (4 : Fin 5) = outV (Bl m) c := by
  have h : (win0_4.blk t0_0).view.read (Elt F) (finalA m ρ c (4 : Fin 5)) = outV (Bl m) c := by
    unfold finalA
    rw [show cfg0.N = t0_0.val + 1 from rfl, (dats m ρ 0 c).arrAt_succ (4 : Fin 5) t0_0]
    rw [show (cfg0.win (4 : Fin 5)).flush t0_0 = true from flush0_4 t0_0, if_pos rfl]
    exact View.read_write_univ _ _
  have hz : (fun a => (win0_4.index t0_0) a * main_v1.ty.shape.size a) = fun _ => 0 := funext fun a => by fin_cases a <;> decide
  exact (Memref.read_access_unit_zero (Elt F) main_v1 hz (fun a => by fin_cases a <;> decide) _).symm.trans h

/-- The blocks the devices start with are their arguments. -/
theorem Bl_x (c : Dev nD) : (Bl m).x c = m ((c : Thread nD τ).loc main_arg0) := by
  have hz : (fun a => (win0_0.index t0_0) a * main_arg0.ty.shape.size a) = fun _ => 0 := funext fun a => by fin_cases a <;> decide
  show iblk m c 0 t0_0 = _
  unfold iblk
  exact Memref.read_access_unit_zero (Elt F) main_arg0 hz (fun a => by fin_cases a <;> decide) (m ((c : Thread nD τ).loc main_arg0))
theorem Bl_a (c : Dev nD) : (Bl m).a c = m ((c : Thread nD τ).loc main_arg1) := by
  have hz : (fun a => (win0_1.index t0_0) a * main_arg1.ty.shape.size a) = fun _ => 0 := funext fun a => by fin_cases a <;> decide
  show iblk m c 1 t0_0 = _
  unfold iblk
  exact Memref.read_access_unit_zero (Elt F) main_arg1 hz (fun a => by fin_cases a <;> decide) (m ((c : Thread nD τ).loc main_arg1))
theorem Bl_w1 (c : Dev nD) : (Bl m).w1 c = m ((c : Thread nD τ).loc main_arg2) := by
  have hz : (fun a => (win0_2.index t0_0) a * main_arg2.ty.shape.size a) = fun _ => 0 := funext fun a => by fin_cases a <;> decide
  show iblk m c 2 t0_0 = _
  unfold iblk
  exact Memref.read_access_unit_zero (Elt F) main_arg2 hz (fun a => by fin_cases a <;> decide) (m ((c : Thread nD τ).loc main_arg2))
theorem Bl_w2 (c : Dev nD) : (Bl m).w2 c = m ((c : Thread nD τ).loc main_arg3) := by
  have hz : (fun a => (win0_3.index t0_0) a * main_arg3.ty.shape.size a) = fun _ => 0 := funext fun a => by fin_cases a <;> decide
  show iblk m c 3 t0_0 = _
  unfold iblk
  exact Memref.read_access_unit_zero (Elt F) main_arg3 hz (fun a => by fin_cases a <;> decide) (m ((c : Thread nD τ).loc main_arg3))

/-- What every fair run ends with, device by device: the result, the arguments, the semaphores. -/
theorem run_values : θ_run defs (onTc (τ := τ) (main (F := F))) ⟨m, fun _ => 0, ρ⟩ (fun r => (∀ c : Dev nD,
      r.2.mem ((c.tc : Thread nD τ).loc main_v1) = outV (Bl m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (4 : Fin 5)).trans (finalA_4 m ρ c), (h.1 c (0 : Fin 5)).trans (finalA_0 m ρ c),
    (h.1 c (1 : Fin 5)).trans (finalA_1 m ρ c), (h.1 c (2 : Fin 5)).trans (finalA_2 m ρ c), (h.1 c (3 : Fin 5)).trans (finalA_3 m ρ c)⟩, h.2⟩)
    (run_main m ρ)

/-- The same without the result. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_values m ρ)

/-- The two programs are one text: what is claimed of the kernel as it is, is the same statement of the other. -/
theorem same_text : Cert.quiescent_Kernel = ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  sl_kernel_rfl

/-- The kernel as it is: every fair run ends with the arguments unchanged and the semaphores at zero. -/
theorem frame_kernel : Cert.quiescent_Kernel := same_text.mpr fun m ρ _ => run_frame (F := Bits) m ρ

/-- The same of the kernel without roundings. -/
theorem frame_kernelIdeal : Cert.quiescent_KernelIdeal := fun m ρ _ => run_frame (F := Ideal) m ρ

/-- The reference: it runs to its end, leaves its arguments alone and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Exch

end
-- ==== Proof.Position.lean ====
/-
  The positions of the tokens among the packed rows: a token's code times eighty, plus its rank among the
  earlier tokens of the same code.
-/
module

public import proofs.«01_k».proof.Proof.Cells
public import Idealize.ShloMosaic.Lib.Pointwise
public import Idealize.ShloMosaic.Lib.IdealHost
public import Idealize.ShloMosaic.Lib.Routing.BitFacts

@[expose] public section

noncomputable section

namespace Cert.KernelIdeal.Exch

open Idealize.ShloMosaic
open scoped BigOperators
open Cert.KernelIdeal Cert.KernelIdeal.Gen

/-- A zero or a one. -/
abbrev ind (p : Prop) [Decidable p] : EReal := if p then 1 else 0

/-- A one-bit word, widened and read as a number, is the indicator of its being one. -/
theorem bit_real (p : Prop) [Decidable p] : (((((BitVec.ofBool (decide p)).setWidth 32).toInt : ℤ) : ℝ) : EReal) = ind p := by
  by_cases h : p <;> simp [h, ind]

/-- The number of tokens before `t` of the same code. -/
def rank (a : S512.Idx → BitVec 32) (t : Fin 512) : ℕ := (Finset.univ.filter fun u : Fin 512 => u < t ∧ a (ix1 u) = a (ix1 t)).card

/-- A comparison of two words for equality, widened and read as a number. -/
theorem eq_real (x y : BitVec 32) : FloatOps.sitofp (F := Ideal) FTy.f32 (BitVec.setWidth 32 (IntOp.cmpi .eq x y)) = ind (x = y) := by
  show (((((BitVec.ofBool (x == y)).setWidth 32).toInt : ℤ) : ℝ) : EReal) = _
  rw [← bit_real]; rfl

/-- A comparison of two small words, widened and read as a number. -/
theorem sge_real (x y : Fin 512) :
    FloatOps.sitofp (F := Ideal) FTy.f32 (BitVec.setWidth 32 (IntOp.cmpi .sge (BitVec.ofNat 32 x.val) (BitVec.ofNat 32 y.val))) = ind (y ≤ x) := by
  show (((((BitVec.ofBool ((BitVec.ofNat 32 y.val).sle (BitVec.ofNat 32 x.val))).setWidth 32).toInt : ℤ) : ℝ) : EReal) = _
  rw [Routing.sle_ofNat32 (by omega) (by omega), ← bit_real]; rfl

/-- The product of two indicators is the indicator of both. -/
theorem ind_mul (p q : Prop) [Decidable p] [Decidable q] : ind p * ind q = ind (p ∧ q) := by
  by_cases hp : p <;> by_cases hq : q <;> simp [ind, hp, hq]

/-- Which code each token has. -/
theorem pay103_at (a : Vec Ideal S512 .i32) (t : Fin 512) (e : Fin 8) :
    k0_pay103 (F := Ideal) a (ix2 t e) = ind (a (ix1 t) = BitVec.ofNat 32 e.val) := by
  pointwise [k0_pay103, k0_pay102]
  exact eq_real _ _

/-- How many tokens up to `t` have code `e`. -/
theorem pay104_at (a : Vec Ideal S512 .i32) (t : Fin 512) (e : Fin 8) :
    k0_pay104 (F := Ideal) a (ix2 t e) = ∑ u : Fin 512, ind (u ≤ t ∧ a (ix1 u) = BitVec.ofNat 32 e.val) := by
  unfold k0_pay104
  pointwise
  exact Finset.sum_congr rfl fun u _ => by rw [sge_real, pay103_at, ind_mul]

/-- Counting with indicators. -/
theorem sum_ind (p : Fin 512 → Prop) [DecidablePred p] : ∑ u, ind (p u) = (((Finset.univ.filter p).card : ℝ) : EReal) := by
  rw [Finset.sum_boole]; norm_cast

/-- The earlier tokens of a code and the token itself are one more than the earlier ones. -/
theorem card_upto (a : S512.Idx → BitVec 32) (t : Fin 512) :
    (Finset.univ.filter fun u : Fin 512 => u ≤ t ∧ a (ix1 u) = a (ix1 t)).card = rank a t + 1 := by
  unfold rank
  rw [← Finset.card_insert_of_notMem (a := t) (by simp)]
  congr 1
  ext u
  simp only [Finset.mem_filter, Finset.mem_univ, true_and, Finset.mem_insert]
  constructor
  · rintro ⟨h, h'⟩
    rcases h.eq_or_lt with h | h
    · exact Or.inl h
    · exact Or.inr ⟨h, h'⟩
  · rintro (h | h)
    · exact ⟨h.le, by rw [h]⟩
    · exact ⟨h.1.le, h.2⟩

/-- The bit pattern `0x42A00000` is eighty. -/
theorem eighty : Ideal.ofBits .f32 1117782016#32 = ((80 : ℝ) : EReal) := by
  simp [Ideal.ofBits, Ideal.ieee, -EReal.coe_mul]; norm_num

/-- A token's rank is below the number of tokens. -/
theorem rank_le (a : S512.Idx → BitVec 32) (t : Fin 512) : rank a t ≤ 512 :=
  (Finset.card_le_univ _).trans (by simp)

/-- The sum a position is read from. -/
theorem place_real (n r : ℕ) : ((n : ℝ) : EReal) * ((80 : ℝ) : EReal) + (((r + 1 : ℕ) : ℝ) - 1 : EReal) = (((80 * n + r : ℕ) : ℝ) : EReal) := by
  rw [show (1 : EReal) = ((1 : ℝ) : EReal) by norm_cast, ← EReal.coe_mul, ← EReal.coe_sub, ← EReal.coe_add]
  congr 1; push_cast; ring

/-- The rank that the products give a token whose code names an expert: its rank and one. -/
theorem sum_named (a : Vec Ideal S512 .i32) (t : Fin 512) (h : (a (ix1 t)).toNat < 8) :
    ∑ x, k0_pay104 (F := Ideal) a (ix2 t x) * k0_pay103 (F := Ideal) a (ix2 t x) = (((rank a t + 1 : ℕ) : ℝ) : EReal) := by
  rw [Finset.sum_eq_single (⟨(a (ix1 t)).toNat, h⟩ : Fin 8)]
  · rw [pay103_at, pay104_at]
    have he : BitVec.ofNat 32 (⟨(a (ix1 t)).toNat, h⟩ : Fin 8).val = a (ix1 t) := by simp
    rw [he, sum_ind, card_upto]; simp [ind]
  · intro e _ hne
    rw [pay103_at]
    have hn : ¬ a (ix1 t) = BitVec.ofNat 32 e.val := fun hh => hne (Fin.ext (by
      show e.val = (a (ix1 t)).toNat
      have := e.isLt
      rw [hh, BitVec.toNat_ofNat]; omega))
    simp [ind, hn]
  · intro hn; exact absurd (Finset.mem_univ _) hn

/-- The products give nothing to a token whose code names no expert. -/
theorem sum_unnamed (a : Vec Ideal S512 .i32) (t : Fin 512) (h : ¬ (a (ix1 t)).toNat < 8) :
    ∑ x, k0_pay104 (F := Ideal) a (ix2 t x) * k0_pay103 (F := Ideal) a (ix2 t x) = 0 := by
  refine Finset.sum_eq_zero fun e _ => ?_
  rw [pay103_at]
  have hn : ¬ a (ix1 t) = BitVec.ofNat 32 e.val := fun hh => h (by
    have := e.isLt
    rw [hh, BitVec.toNat_ofNat]; omega)
  simp [ind, hn]

/-- The position of a token whose code names an expert: its code times eighty, plus its rank. -/
theorem posV_at (a : Vec Ideal S512 .i32) (t : Fin 512) (h : (a (ix1 t)).toNat < 8) :
    posV (F := Ideal) a (ix2 t 0) = BitVec.ofNat 32 (80 * (a (ix1 t)).toNat + rank a t) := by
  unfold posV k0_pay1
  pointwise [k0_pay102]
  have hi : (a (ix1 t)).toInt = ((a (ix1 t)).toNat : ℤ) := BitVec.toInt_eq_toNat_of_lt (by omega)
  have hsi : FloatOps.sitofp (F := Ideal) FTy.f32 (a (ix1 t)) = ((((a (ix1 t)).toNat : ℕ) : ℝ) : EReal) := by
    show ((((a (ix1 t)).toInt : ℤ) : ℝ) : EReal) = _
    rw [hi, Int.cast_natCast]
  rw [sum_named a t h, hsi, eighty, place_real]
  show Ideal.fptosi 32 _ = _
  rw [Ideal.fptosi, Ideal.toIntClamped_coe, if_pos (by positivity), Int.floor_natCast]
  have hr := rank_le a t
  rw [min_eq_right (by norm_num; omega), max_eq_right (by norm_num; omega), BitVec.ofInt_natCast]

/-- The sum a position is read from where the code names no expert. -/
theorem off_real (z : ℤ) : ((z : ℝ) : EReal) * ((80 : ℝ) : EReal) + (0 - 1 : EReal) = (((80 * z - 1 : ℤ) : ℝ) : EReal) := by
  rw [show (1 : EReal) = ((1 : ℝ) : EReal) by norm_cast, show (0 : EReal) = ((0 : ℝ) : EReal) by norm_cast,
    ← EReal.coe_mul, ← EReal.coe_sub, ← EReal.coe_add]
  congr 1; push_cast; ring

/-- A word holding a number of its range reads as that number. -/
theorem ofInt_range (z : ℤ) (h : -2147483648 ≤ z) (h' : z < 2147483648) : (BitVec.ofInt 32 z).toInt = z := by
  rw [BitVec.toInt_ofInt, Int.bmod_def]
  split <;> omega

/-- A token whose code names no expert, and is not eight, has no position among the packed rows. -/
theorem posV_off (a : Vec Ideal S512 .i32) (t : Fin 512) (h : ¬ (a (ix1 t)).toNat < 8) (h8 : a (ix1 t) ≠ 8#32) (n : ℕ) (hn : n < 640) :
    posV (F := Ideal) a (ix2 t 0) ≠ BitVec.ofNat 32 n := by
  unfold posV k0_pay1
  pointwise [k0_pay102]
  have hsi : FloatOps.sitofp (F := Ideal) FTy.f32 (a (ix1 t)) = ((((a (ix1 t)).toInt : ℤ) : ℝ) : EReal) := rfl
  rw [sum_unnamed a t h, hsi, eighty, off_real]
  show Ideal.fptosi 32 _ ≠ _
  rw [Ideal.fptosi, Ideal.toIntClamped_coe, Int.floor_intCast, Int.ceil_intCast, ite_self]
  have h8' : (a (ix1 t)).toNat ≠ 8 := fun hh => h8 (BitVec.eq_of_toNat_eq hh)
  have hi := BitVec.toInt_eq_toNat_cond (a (ix1 t))
  have hlt := (a (ix1 t)).isLt
  intro he
  have he := congrArg BitVec.toInt he
  have hr : (BitVec.ofNat 32 n).toInt = (n : ℤ) := by
    rw [BitVec.toInt_eq_toNat_of_lt (by rw [BitVec.toNat_ofNat]; omega), BitVec.toNat_ofNat]; omega
  rw [hr, ofInt_range _ (by norm_num) (by norm_num)] at he
  norm_num at he hi
  split_ifs at hi <;> omega

end Cert.KernelIdeal.Exch

end
-- ==== Proof.Packed.lean ====
/-
  What the products of the kernel hold: a token's row at its position, the outputs of one expert on packed
  rows, and the rows taken back out.
-/
module

public import proofs.«01_k».proof.Proof.Position

@[expose] public section

noncomputable section

namespace Cert.KernelIdeal.Exch

open Idealize.ShloMosaic
open scoped BigOperators
open Cert.KernelIdeal Cert.KernelIdeal.Gen

/-- No code is eight, and no expert has more than eighty of the tokens. -/
structure Fits (a : S512.Idx → BitVec 32) : Prop where
  code : ∀ t : Fin 512, a (ix1 t) ≠ 8#32
  rank : ∀ t : Fin 512, (a (ix1 t)).toNat < 8 → rank a t < 80

/-- The position of a token among the 640 packed rows; 640, which is none of them, if its code names no expert. -/
def place (a : S512.Idx → BitVec 32) (t : Fin 512) : ℕ :=
  if (a (ix1 t)).toNat < 8 then 80 * (a (ix1 t)).toNat + rank a t else 640

theorem place_named (a : S512.Idx → BitVec 32) {t : Fin 512} (h : (a (ix1 t)).toNat < 8) :
    place a t = 80 * (a (ix1 t)).toNat + rank a t := if_pos h
theorem place_off (a : S512.Idx → BitVec 32) {t : Fin 512} (h : ¬ (a (ix1 t)).toNat < 8) : place a t = 640 := if_neg h

theorem place_lt {a : S512.Idx → BitVec 32} (h : Fits a) {t : Fin 512} (hn : (a (ix1 t)).toNat < 8) : place a t < 640 := by
  have := h.rank t hn; rw [place_named a hn]; omega

/-- A token with a position has a code that names an expert. -/
theorem named_of_lt {a : S512.Idx → BitVec 32} {t : Fin 512} (h : place a t < 640) : (a (ix1 t)).toNat < 8 := by
  by_contra hn; rw [place_off a hn] at h; omega

/-- Among tokens of one code, a later one has the greater rank. -/
theorem rank_lt (a : S512.Idx → BitVec 32) {t u : Fin 512} (hc : a (ix1 t) = a (ix1 u)) (h : t < u) : rank a t < rank a u := by
  unfold rank
  apply Finset.card_lt_card
  rw [Finset.ssubset_iff_of_subset]
  · exact ⟨t, by simp [h, hc], by simp⟩
  · intro v hv
    simp only [Finset.mem_filter, Finset.mem_univ, true_and] at hv ⊢
    exact ⟨hv.1.trans h, by rw [hv.2, hc]⟩

/-- Two tokens never share a position. -/
theorem place_inj {a : S512.Idx → BitVec 32} (h : Fits a) {t u : Fin 512} (he : place a t = place a u) (hl : place a t < 640) : t = u := by
  have nt := named_of_lt hl
  have nu := named_of_lt (he ▸ hl)
  have h1 := h.rank t nt; have h2 := h.rank u nu
  rw [place_named a nt, place_named a nu] at he
  have hc : a (ix1 t) = a (ix1 u) := BitVec.eq_of_toNat_eq (by omega)
  have hr : rank a t = rank a u := by rw [hc] at he; omega
  rcases lt_trichotomy t u with hl | hl | hl
  · have := rank_lt a hc hl; omega
  · exact hl
  · have := rank_lt a hc.symm hl; omega

/-- A position less the first row of a peer is a row of the peer's just where the position is that row's. -/
theorem sub_row (p : BitVec 32) (j : Fin 4) (s : Fin 160) :
    BitVec.ofNat 32 s.val = IntOp.subi p (BitVec.ofNat 32 (160 * j.val)) ↔ p = BitVec.ofNat 32 (160 * j.val + s.val) := by
  have hj := j.isLt
  have hs := s.isLt
  have hp := p.isLt
  constructor
  · intro he
    have := congrArg BitVec.toNat he
    apply BitVec.eq_of_toNat_eq
    simp only [IntOp.subi, BitVec.toNat_ofNat, BitVec.toNat_sub] at this ⊢
    omega
  · intro he
    rw [he]
    apply BitVec.eq_of_toNat_eq
    simp only [IntOp.subi, BitVec.toNat_ofNat, BitVec.toNat_sub]
    omega

/-- Which packed row of peer `j` each token takes. -/
theorem pmV_at {a : Vec Ideal S512 .i32} (h : Fits a) (j : Fin 4) (t : Fin 512) (s : Fin 160) :
    pmV (F := Ideal) (posV (F := Ideal) a) j (ix2 t s) = ind (place a t = 160 * j.val + s.val) := by
  unfold pmV
  pointwise
  rw [eq_real]
  have hj := j.isLt
  have hs := s.isLt
  congr 1
  refine propext ((sub_row _ j s).trans ?_)
  by_cases hn : (a (ix1 t)).toNat < 8
  · have h1 := place_lt h hn
    rw [posV_at a t hn, ← place_named a hn]
    refine ⟨fun he => ?_, fun he => by rw [he]⟩
    have := congrArg BitVec.toNat he
    simp only [BitVec.toNat_ofNat] at this
    omega
  · rw [place_off a hn]
    exact ⟨fun he => absurd he (posV_off a t hn (h.code t) _ (by omega)), fun he => by omega⟩

/-- The tokens packed for peer `j`, as sums. -/
theorem packV_at {a : Vec Ideal S512 .i32} (h : Fits a) (x : Vec Ideal S512x512 .f32) (j : Fin 4) (s : Fin 160) (i : Fin 512) :
    packV (F := Ideal) (posV (F := Ideal) a) x j (ix2 s i) = ∑ u : Fin 512, ind (place a u = 160 * j.val + s.val) * x (ix2 u i) := by
  unfold packV
  pointwise
  exact Finset.sum_congr rfl fun u _ => by rw [pmV_at h]

/-- The rows taken back out of peer `j`'s outputs, as sums. -/
theorem takeV_at {a : Vec Ideal S512 .i32} (h : Fits a) (j : Fin 4) (y : Vec Ideal S160x512 .bf16) (t i : Fin 512) :
    takeV (F := Ideal) (posV (F := Ideal) a) j y (ix2 t i) = ∑ s : Fin 160, ind (place a t = 160 * j.val + s.val) * y (ix2 s i) := by
  unfold takeV
  pointwise
  exact Finset.sum_congr rfl fun u _ => by rw [pmV_at h]

/-- One expert on packed rows, as sums. -/
theorem ffnV_at (x : FVec Ideal S80x512 .bf16) (a : Vec Ideal S1x512x1024 .f32) (b : Vec Ideal S1x1024x512 .f32) (r : Fin 80) (i : Fin 512) :
    ffnV (F := Ideal) x a b (ix2 r i)
      = ∑ h : Fin 1024, max (∑ k : Fin 512, x (ix2 r k) * a (ix3 0 k h)) 0 * b (ix3 0 h i) := by
  unfold ffnV
  pointwise

/-- A token's row stands at its position. -/
theorem packV_row {a : Vec Ideal S512 .i32} (h : Fits a) (x : Vec Ideal S512x512 .f32) (j : Fin 4) (s : Fin 160) (i t : Fin 512)
    (hp : place a t = 160 * j.val + s.val) : packV (F := Ideal) (posV (F := Ideal) a) x j (ix2 s i) = x (ix2 t i) := by
  rw [packV_at h, Finset.sum_eq_single t]
  · simp [ind, hp]
  · intro u _ hu
    have : ¬ place a u = 160 * j.val + s.val := fun he => hu (place_inj h (he.trans hp.symm) (by have := j.isLt; have := s.isLt; omega))
    simp [ind, this]
  · intro hn; exact absurd (Finset.mem_univ _) hn

/-- A token takes its own output row, from the peer its position falls to, and nothing from the others. -/
theorem takeV_row {a : Vec Ideal S512 .i32} (h : Fits a) (j : Fin 4) (y : Vec Ideal S160x512 .bf16) (t i : Fin 512) :
    takeV (F := Ideal) (posV (F := Ideal) a) j y (ix2 t i)
      = if place a t / 160 = j.val then y (ix2 (⟨place a t % 160, Nat.mod_lt _ (by decide)⟩ : Fin 160) i) else 0 := by
  rw [takeV_at h]
  by_cases hj : place a t / 160 = j.val
  · rw [if_pos hj, Finset.sum_eq_single (⟨place a t % 160, Nat.mod_lt _ (by decide)⟩ : Fin 160)]
    · have : place a t = 160 * j.val + place a t % 160 := by omega
      simp only [ind]
      rw [if_pos this, one_mul]
    · intro s _ hs
      have : ¬ place a t = 160 * j.val + s.val := fun he => hs (Fin.ext (by have := s.isLt; show s.val = place a t % 160; omega))
      simp only [ind]
      rw [if_neg this, zero_mul]
    · intro hn; exact absurd (Finset.mem_univ _) hn
  · rw [if_neg hj]
    refine Finset.sum_eq_zero fun s _ => ?_
    have : ¬ place a t = 160 * j.val + s.val := fun he => hj (by have := s.isLt; omega)
    simp only [ind]
    rw [if_neg this, zero_mul]

end Cert.KernelIdeal.Exch

end
-- ==== Proof.Codes.lean ====
/-
  What the precondition says of a device's codes: none of them is eight, and no expert has more than eighty of
  the device's tokens.
-/
module

public import proofs.«01_k».proof.Defs
public import proofs.«01_k».proof.Proof.Packed
public import Idealize.ShloMosaic.Lib.ReduceAll
public import Idealize.ShloMosaic.Lib.IndicatorCount

@[expose] public section

noncomputable section

/-- The shape relations of the precondition on one device's blocks. -/
instance Cert.Pre_fits_KernelIdeal.shapes : Cert.Pre_fits_KernelIdeal.Facts where
  bcast_S_S512 := by decide
  reducesTo_S512_S_d0 := by decide
  h_S_ := by decide
  bcast_S512_S512x1_0 := by decide
  bcast_S8_S1x8_1 := by decide
  bcast_S512x1_S512x8_0_1 := by decide
  bcast_S1x8_S512x8_0_1 := by decide
  natLt_1_32 := by decide
  reducesTo_S512x8_S8_d0 := by decide
  bcast_S_S8 := by decide
  reducesTo_S8_S_d0 := by decide

/-- The shape relations of the precondition on the whole arrays. -/
instance Cert.Pre_fits_ReferenceIdeal.shapes : Cert.Pre_fits_ReferenceIdeal.Facts where
  bcast_S_S2048 := by decide
  reducesTo_S2048_S_d0 := by decide
  h_S_ := by decide
  bcast_S2048_S2048x1_0 := by decide
  bcast_S8_S1x8_1 := by decide
  bcast_S2048x1_S2048x8_0_1 := by decide
  bcast_S1x8_S2048x8_0_1 := by decide
  natLt_1_32 := by decide
  reducesTo_S2048x8_S8_d0 := by decide
  bcast_S_S8 := by decide
  reducesTo_S8_S_d0 := by decide

namespace Cert.KernelIdeal.Exch

open Idealize.ShloMosaic
open scoped BigOperators

/-- Both of two bits that are one together. -/
theorem both_one (x y : BitVec 1) (h : IntOp.andi x y = 1#1) : x = 1#1 ∧ y = 1#1 := by
  revert h; revert x y; decide

/-- A bit made of a truth is one only if it is true. -/
theorem bit_one (b : Bool) (h : BitVec.ofBool b = 1#1) : b = true := by revert h; revert b; decide

/-- A device's codes are as the kernel needs them where the precondition holds. -/
theorem fits_of_pre (x : FVec Ideal Cert.Pre_fits_KernelIdeal.S512x512 .f32) (a : IVec Cert.Pre_fits_KernelIdeal.S512 32)
    (w1 : FVec Ideal Cert.Pre_fits_KernelIdeal.S2x512x1024 .f32) (w2 : FVec Ideal Cert.Pre_fits_KernelIdeal.S2x1024x512 .f32)
    (h : Cert.Pre_fits_KernelIdeal.fn (F := Ideal) x a w1 w2 = fun _ => 1#1) : Fits a := by
  have h := congrFun h (fun b => b.elim0)
  unfold Cert.Pre_fits_KernelIdeal.fn at h
  obtain ⟨ha, hc⟩ := both_one _ _ h
  refine ⟨fun t => ?_, fun t hcode => ?_⟩
  · have := bit_one _ (Host.reduce_andi_eq_one _ _ _ _ _ ha (ix1 t) (funext fun b => b.elim0))
    exact bne_iff_ne.mp this
  have he := Host.reduce_andi_eq_one _ _ _ _ _ hc (ix1 (⟨(a (ix1 t)).toNat, hcode⟩ : Fin 8)) (funext fun b => b.elim0)
  have he := bit_one _ he
  dsimp only at he
  rw [Host.reduce_eq_fold] at he
  have he := (congrArg (fun w : BitVec 32 => w.sle 80#32) (IndicatorCount.fold_addi_setWidth_eq_card _ _)).symm.trans he
  have hle : ∀ S : Finset Cert.Pre_fits_KernelIdeal.S512x8.Idx, S.card < 2 ^ 31 := fun S => by
    refine lt_of_le_of_lt (Finset.card_le_univ S) ?_
    rw [Fintype.card_congr Cert.Pre_fits_KernelIdeal.S512x8.rowMajor, Fintype.card_fin]
    decide
  have he := (Routing.sle_ofNat32 (b := 80) (hle _) (by norm_num)).symm.trans he
  have he := of_decide_eq_true he
  have hinj : (Finset.univ.filter fun u : Fin 512 => u ≤ t ∧ a (ix1 u) = a (ix1 t)).card ≤ 80 := by
    refine le_trans (Finset.card_le_card_of_injOn (fun u : Fin 512 => (ix2 u (⟨(a (ix1 t)).toNat, hcode⟩ : Fin 8) : Cert.Pre_fits_KernelIdeal.S512x8.Idx)) ?_ ?_) he
    · intro u hu
      have hu : a (ix1 u) = a (ix1 t) := (Finset.mem_filter.mp hu).2.2
      refine Finset.mem_filter.mpr ⟨Finset.mem_filter.mpr ⟨Finset.mem_univ _, ?_⟩, ?_⟩
      · funext b; match b with | ⟨0, _⟩ => rfl
      · pointwise
        rw [hu]
        show BitVec.ofBool (a (ix1 t) == BitVec.ofNat 32 (a (ix1 t)).toNat) = 1#1
        simp
    · intro u _ v _ huv
      exact congrFun huv (0 : Fin 2)
  have := card_upto a t
  omega

end Cert.KernelIdeal.Exch

end
-- ==== Proof.Value.lean ====
/-
  The result of the kernel on a device, token by token: the expert a token's code names, held by the peer the
  code falls to, on the token's row.
-/
module

public import proofs.«01_k».proof.Proof.Packed

@[expose] public section

noncomputable section

namespace Cert.KernelIdeal.Exch

open Idealize.ShloMosaic
open scoped BigOperators
open Cert.KernelIdeal Cert.KernelIdeal.Gen

variable (B : Blocks Ideal)

/-- Expert `l` of device `d` on a row, at one column. -/
def expert (d : Dev nD) (l : Fin 2) (x : Fin 512 → EReal) (i : Fin 512) : EReal :=
  ∑ h : Fin 1024, max (∑ k : Fin 512, x k * B.w1 d (ix3 l k h)) 0 * B.w2 d (ix3 l h i)

theorem rW1_at (l : Fin 2) (k : Fin 512) (h : Fin 1024) : (rW1 l).emb (ix3 (0 : Fin 1) k h) = ix3 l k h := by
  funext a; apply Fin.ext
  match a with
  | ⟨0, _⟩ => show l.val + 1 * 0 = l.val; omega
  | ⟨1, _⟩ => show 0 + 1 * k.val = k.val; omega
  | ⟨2, _⟩ => show 0 + 1 * h.val = h.val; omega

theorem rW2_at (l : Fin 2) (h : Fin 1024) (i : Fin 512) : (rW2 l).emb (ix3 (0 : Fin 1) h i) = ix3 l h i := by
  funext a; apply Fin.ext
  match a with
  | ⟨0, _⟩ => show l.val + 1 * 0 = l.val; omega
  | ⟨1, _⟩ => show 0 + 1 * h.val = h.val; omega
  | ⟨2, _⟩ => show 0 + 1 * i.val = i.val; omega

theorem rBlk_at (j : Fin 4) (q : Fin 160) (i : Fin 512) :
    (rBlk j).emb (ix2 q i) = ix2 (⟨j.val * 160 + q.val, by have := j.isLt; have := q.isLt; omega⟩ : Fin 640) i := by
  funext a; apply Fin.ext
  match a with
  | ⟨0, _⟩ => show j.val * 160 + 1 * q.val = j.val * 160 + q.val; omega
  | ⟨1, _⟩ => show 0 + 1 * i.val = i.val; omega

/-- The tokens packed for a device by its peer at `z`, where they stand. -/
theorem gFull_at (c : Dev nD) (j : Fin 4) (q : Fin 160) (k : Fin 512) :
    gFull B (peer c j) (ValueIdx.ix3 (zof c) q k) = packV (pos B c) (B.x c) j (ix2 q k) := by
  show packV (pos B (peer (peer c j) (zof c))) (B.x (peer (peer c j) (zof c))) (zof (peer c j)) (ValueIdx.ix2 q k) = _
  rw [peer_back, zof_peer, ix2_eq_valueIdx]

/-- An expert's outputs on a device's packed rows, where a token stands. -/
theorem eV_at (c : Dev nD) (h : Fits (B.a c)) (j : Fin 4) (l : Fin 2) (r : Fin 80) (t i : Fin 512)
    (hp : place (B.a c) t = 160 * j.val + (l.val * 80 + r.val)) :
    eV B (peer c j) (zof c) l (ix2 r i) = expert B (peer c j) l (fun k => B.x c (ix2 t k)) i := by
  unfold eV expert
  rw [ffnV_at]
  have hl := l.isLt
  have hr := r.isLt
  refine Finset.sum_congr rfl fun hh _ => ?_
  rw [rW2_at]
  congr 2
  refine Finset.sum_congr rfl fun k _ => ?_
  rw [rW1_at]
  congr 1
  exact (gFull_at B c j (⟨l.val * 80 + r.val, by omega⟩ : Fin 160) k).trans (packV_row h (B.x c) j _ k t hp)

/-- The outputs a device has gathered, where a token stands. -/
theorem pFull_at (c : Dev nD) (h : Fits (B.a c)) (t i : Fin 512) (p : Fin 640) (hp : place (B.a c) t = p.val)
    (j : Fin 4) (hj : p.val / 160 = j.val) (l : Fin 2) (hl : p.val % 160 / 80 = l.val) :
    pFull B c (ix2 p i) = expert B (peer c j) l (fun k => B.x c (ix2 t k)) i := by
  have e : (⟨p.val / 160, by have := p.isLt; omega⟩ : Fin 4) = j := Fin.ext hj
  have e' : (⟨p.val % 160 / 80, by omega⟩ : Fin 2) = l := Fin.ext hl
  show eV B (peer c ⟨p.val / 160, _⟩) (zof c) ⟨p.val % 160 / 80, _⟩ (ValueIdx.ix2 (⟨p.val % 160 % 80, _⟩ : Fin 80) i) = _
  rw [e, e', ← ix2_eq_valueIdx]
  exact eV_at B c h j l _ t i (by show _ = 160 * j.val + (l.val * 80 + p.val % 160 % 80); omega)

/-- The peer that holds the expert a token goes to. -/
def toPeer (a : S512.Idx → BitVec 32) (t : Fin 512) : Fin 4 := ⟨(a (ix1 t)).toNat / 2 % 4, Nat.mod_lt _ (by decide)⟩
/-- Which of the peer's two experts it is. -/
def toHalf (a : S512.Idx → BitVec 32) (t : Fin 512) : Fin 2 := ⟨(a (ix1 t)).toNat % 2, Nat.mod_lt _ (by decide)⟩

/-- A token whose code names no expert takes nothing from any peer. -/
theorem part_off (c : Dev nD) (h : Fits (B.a c)) (j : Fin 4) (t i : Fin 512) (hn : ¬ (B.a c (ix1 t)).toNat < 8) :
    part B c j (ix2 t i) = 0 := by
  unfold part
  show takeV (posV (B.a c)) j _ (ix2 t i) = _
  rw [takeV_row h, if_neg]
  rw [place_off _ hn]
  have := j.isLt
  omega

/-- The part of a result row from one peer: the expert's output if the token went there, and zero if not. -/
theorem part_at (c : Dev nD) (h : Fits (B.a c)) (j : Fin 4) (t i : Fin 512) (hc : (B.a c (ix1 t)).toNat < 8) :
    part B c j (ix2 t i)
      = if toPeer (B.a c) t = j then expert B (peer c (toPeer (B.a c) t)) (toHalf (B.a c) t) (fun k => B.x c (ix2 t k)) i else 0 := by
  have hr := h.rank t hc
  have hpl := place_named (B.a c) hc
  unfold part
  show takeV (posV (B.a c)) j _ (ix2 t i) = _
  rw [takeV_row h]
  have hiff : place (B.a c) t / 160 = j.val ↔ toPeer (B.a c) t = j := by
    rw [Fin.ext_iff]; show _ ↔ (B.a c (ix1 t)).toNat / 2 % 4 = j.val; omega
  by_cases hj : toPeer (B.a c) t = j
  · rw [if_pos hj, if_pos (hiff.mpr hj), rBlk_at]
    have hjj := hiff.mpr hj
    have hlt := place_lt h hc
    have hd : j.val * 160 + place (B.a c) t % 160 = place (B.a c) t := by omega
    rw [hj]
    exact pFull_at B c h t i _ hd.symm j (by show (j.val * 160 + place (B.a c) t % 160) / 160 = j.val; omega) _
      (by show (j.val * 160 + place (B.a c) t % 160) % 160 / 80 = (B.a c (ix1 t)).toNat % 2; omega)
  · rw [if_neg hj, if_neg fun hh => hj (hiff.mp hh)]

/-- The result of the kernel on a device is zero at a token whose code names no expert. -/
theorem outV_off (c : Dev nD) (h : Fits (B.a c)) (t i : Fin 512) (hn : ¬ (B.a c (ix1 t)).toNat < 8) : outV B c (ix2 t i) = 0 := by
  show part B c (zof c) (ix2 t i) + part B c (ord (zof c) 0) (ix2 t i) + part B c (ord (zof c) 1) (ix2 t i)
    + part B c (ord (zof c) 2) (ix2 t i) = _
  rw [part_off B c h _ t i hn, part_off B c h _ t i hn, part_off B c h _ t i hn, part_off B c h _ t i hn]
  simp

/-- The result of the kernel on a device, at a token whose code names an expert. -/
theorem outV_at (c : Dev nD) (h : Fits (B.a c)) (t i : Fin 512) (hc : (B.a c (ix1 t)).toNat < 8) :
    outV B c (ix2 t i) = expert B (peer c (toPeer (B.a c) t)) (toHalf (B.a c) t) (fun k => B.x c (ix2 t k)) i := by
  show part B c (zof c) (ix2 t i) + part B c (ord (zof c) 0) (ix2 t i) + part B c (ord (zof c) 1) (ix2 t i)
    + part B c (ord (zof c) 2) (ix2 t i) = _
  rw [part_at B c h _ t i hc, part_at B c h _ t i hc, part_at B c h _ t i hc, part_at B c h _ t i hc]
  generalize expert B _ _ _ i = v
  generalize toPeer (B.a c) t = p
  generalize zof c = z
  have : ∀ p z : Fin 4, (p = z ∧ p ≠ ord z 0 ∧ p ≠ ord z 1 ∧ p ≠ ord z 2) ∨ (p ≠ z ∧ p = ord z 0 ∧ p ≠ ord z 1 ∧ p ≠ ord z 2)
      ∨ (p ≠ z ∧ p ≠ ord z 0 ∧ p = ord z 1 ∧ p ≠ ord z 2) ∨ (p ≠ z ∧ p ≠ ord z 0 ∧ p ≠ ord z 1 ∧ p = ord z 2) := by decide
  rcases this p z with ⟨h1, h2, h3, h4⟩ | ⟨h1, h2, h3, h4⟩ | ⟨h1, h2, h3, h4⟩ | ⟨h1, h2, h3, h4⟩
  · rw [if_pos h1, if_neg h2, if_neg h3, if_neg h4]; simp
  · rw [if_neg h1, if_pos h2, if_neg h3, if_neg h4]; simp
  · rw [if_neg h1, if_neg h2, if_pos h3, if_neg h4]; simp
  · rw [if_neg h1, if_neg h2, if_neg h3, if_pos h4]; simp

end Cert.KernelIdeal.Exch

end
-- ==== Proof.Reference.lean ====
/-
  The reference's result, token by token: the expert a token's code names, on the token's row.
-/
module

public import proofs.«01_k».proof.Proof.Gen.ReferenceIdeal
public import proofs.«01_k».proof.Proof.Gen.ReferenceIdeal.Run
public import Idealize.ShloMosaic.Lib.Pointwise
public import Idealize.ShloMosaic.Lib.IdealHost

@[expose] public section

noncomputable section

namespace Cert.ReferenceIdeal.Whole

open Idealize.ShloMosaic
open scoped BigOperators
open Cert.ReferenceIdeal Cert.ReferenceIdeal.Gen Facts

/-- Expert `e` on a row, at one column. -/
def expert (w1 : FVec Ideal S8x512x1024 .f32) (w2 : FVec Ideal S8x1024x512 .f32) (e : Fin 8) (x : Fin 512 → EReal) (i : Fin 512) : EReal :=
  ∑ h : Fin 1024, max (∑ k : Fin 512, x k * w1 (ix3 e k h)) 0 * w2 (ix3 e h i)

/-- A choice on two words being equal. -/
theorem pick {α : Type} (x y : BitVec 32) (u v : α) : Scalar.select (IntOp.cmpi .eq x y) u v = if x = y then u else v := by
  show (if BitVec.ofBool (x == y) = 1#1 then u else v) = _
  by_cases h : x = y
  · simp [h]
  · rw [if_neg h, beq_eq_false_iff_ne.mpr h, if_neg (by decide)]

/-- The eight choices, one for each code, come to the one the code names. -/
theorem pick_code (a : BitVec 32) (h : a.toNat < 8) (f : Fin 8 → EReal) (z : EReal) :
    (if a = 7#32 then f 7 else if a = 6#32 then f 6 else if a = 5#32 then f 5 else if a = 4#32 then f 4 else
      if a = 3#32 then f 3 else if a = 2#32 then f 2 else if a = 1#32 then f 1 else if a = 0#32 then f 0 else z) = f ⟨a.toNat, h⟩ := by
  have key : ∀ e : Fin 8, ∀ b : BitVec 32, b = BitVec.ofNat 32 e.val → (if b = 7#32 then f 7 else if b = 6#32 then f 6 else if b = 5#32 then f 5 else if b = 4#32 then f 4 else
      if b = 3#32 then f 3 else if b = 2#32 then f 2 else if b = 1#32 then f 1 else if b = 0#32 then f 0 else z) = f e := by
    intro e b hb
    subst hb
    fin_cases e <;> rfl
  exact key ⟨a.toNat, h⟩ a (by simp)

/-- The eight choices, where the code is none of theirs. -/
theorem pick_none (a : BitVec 32) (h : ¬ a.toNat < 8) (f : Fin 8 → EReal) (z : EReal) :
    (if a = 7#32 then f 7 else if a = 6#32 then f 6 else if a = 5#32 then f 5 else if a = 4#32 then f 4 else
      if a = 3#32 then f 3 else if a = 2#32 then f 2 else if a = 1#32 then f 1 else if a = 0#32 then f 0 else z) = z := by
  have key : ∀ e : Fin 8, a ≠ BitVec.ofNat 32 e.val := fun e he => h (by
    have := e.isLt
    rw [he, BitVec.toNat_ofNat]; omega)
  exact (if_neg (key 7)).trans <| (if_neg (key 6)).trans <| (if_neg (key 5)).trans <| (if_neg (key 4)).trans <|
    (if_neg (key 3)).trans <| (if_neg (key 2)).trans <| (if_neg (key 1)).trans <| if_neg (key 0)

/-- The reference's result, token by token: the named expert's output, and zero where the code names none. -/
theorem out_at (m : (ℓ : Loc nD τ sig) → Buf (Elt Ideal) ℓ) (c : Dev nD) (x : FVec Ideal S2048x512 .f32) (a : IVec S2048 32)
    (w1 : FVec Ideal S8x512x1024 .f32) (w2 : FVec Ideal S8x1024x512 .f32)
    (hx : m ((c.tc : Thread nD τ).loc main_arg0) = x) (ha : m ((c.tc : Thread nD τ).loc main_arg1) = a)
    (hw1 : m ((c.tc : Thread nD τ).loc main_arg2) = w1) (hw2 : m ((c.tc : Thread nD τ).loc main_arg3) = w2)
    (t : Fin 2048) (i : Fin 512) :
    Value.res_main_v96 (F := Ideal) m c (ix2 t i)
      = if h : (a (ix1 t)).toNat < 8 then expert w1 w2 ⟨(a (ix1 t)).toNat, h⟩ (fun k => x (ix2 t k)) i else 0 := by
  unfold Value.res_main_v96
  rw [hx, ha, hw1, hw2]
  pointwise
  simp only [pick]
  by_cases h : (a (ix1 t)).toNat < 8
  · rw [dif_pos h]
    exact pick_code (a (ix1 t)) h (fun e => expert w1 w2 e (fun k => x (ix2 t k)) i) 0
  · rw [dif_neg h]
    exact pick_none (a (ix1 t)) h (fun e => expert w1 w2 e (fun k => x (ix2 t k)) i) 0

end Cert.ReferenceIdeal.Whole

end
-- ==== Proof.Agree.lean ====
/-
  The kernel's result on each device is its part of the reference's.
-/
module

public import proofs.«01_k».proof.Proof.Frames
public import proofs.«01_k».proof.Proof.Codes
public import proofs.«01_k».proof.Proof.Value
public import proofs.«01_k».proof.Proof.Reference

@[expose] public section

noncomputable section

namespace Cert.KernelIdeal.Exch

open Idealize.ShloMosaic Idealize.SL.Sem
open scoped BigOperators
open Cert.KernelIdeal Cert.KernelIdeal.Gen

/-- The block along the first dimension that a device holds is the one of its place. -/
theorem lin_eq (c : ℕ) : Layout.meshLin [2, 4, 4] c [2] = c % 4 := by
  simp [Layout.meshLin, Layout.meshCoord, Layout.cutSize]

/-- A token's row of the whole array. -/
abbrev row (c : Dev nD) (t : Fin 512) : Fin 2048 :=
  ⟨(zof c).val * 512 + t.val, by have := (zof c).isLt; have := t.isLt; omega⟩
/-- An expert's number among all. -/
abbrev num (c : Dev nD) (l : Fin 2) : Fin 8 :=
  ⟨(zof c).val * 2 + l.val, by have := (zof c).isLt; have := l.isLt; omega⟩

/-- A device's part of a [2048, 512] array, at one place. -/
theorem part_x (c : Dev nD) {α : Type} (v : (⟨2, ![2048, 512]⟩ : Shape).Idx → α) (h) (t i : Fin 512) :
    Layout.blockN ⟨2, ![512, 512]⟩ ⟨2, ![2048, 512]⟩ (Layout.meshBlock [2, 4, 4] ![[2], []] c) v h (ix2 t i) = v (ix2 (row c t) i) := by
  rw [Layout.blockN_apply]
  congr 1
  funext b; apply Fin.ext
  rw [Layout.TilesN.idx_val]
  match b with
  | ⟨0, _⟩ => show Layout.meshLin [2, 4, 4] c.val [2] * 512 + t.val = c.val % 4 * 512 + t.val; rw [lin_eq]
  | ⟨1, _⟩ => show 0 * 512 + i.val = i.val; omega

/-- A device's part of a [2048] array, at one place. -/
theorem part_a (c : Dev nD) {α : Type} (v : (⟨1, ![2048]⟩ : Shape).Idx → α) (h) (t : Fin 512) :
    Layout.blockN ⟨1, ![512]⟩ ⟨1, ![2048]⟩ (Layout.meshBlock [2, 4, 4] ![[2]] c) v h (ix1 t) = v (ix1 (row c t)) := by
  rw [Layout.blockN_apply]
  congr 1
  funext b; apply Fin.ext
  rw [Layout.TilesN.idx_val]
  match b with
  | ⟨0, _⟩ => show Layout.meshLin [2, 4, 4] c.val [2] * 512 + t.val = c.val % 4 * 512 + t.val; rw [lin_eq]

/-- A device's part of the first matrices, at one place. -/
theorem part_w1 (c : Dev nD) {α : Type} (v : (⟨3, ![8, 512, 1024]⟩ : Shape).Idx → α) (h) (l : Fin 2) (k : Fin 512) (i : Fin 1024) :
    Layout.blockN ⟨3, ![2, 512, 1024]⟩ ⟨3, ![8, 512, 1024]⟩ (Layout.meshBlock [2, 4, 4] ![[2], [], []] c) v h (ix3 l k i) = v (ix3 (num c l) k i) := by
  rw [Layout.blockN_apply]
  congr 1
  funext b; apply Fin.ext
  rw [Layout.TilesN.idx_val]
  match b with
  | ⟨0, _⟩ => show Layout.meshLin [2, 4, 4] c.val [2] * 2 + l.val = c.val % 4 * 2 + l.val; rw [lin_eq]
  | ⟨1, _⟩ => show 0 * 512 + k.val = k.val; omega
  | ⟨2, _⟩ => show 0 * 1024 + i.val = i.val; omega

/-- A device's part of the second matrices, at one place. -/
theorem part_w2 (c : Dev nD) {α : Type} (v : (⟨3, ![8, 1024, 512]⟩ : Shape).Idx → α) (h) (l : Fin 2) (k : Fin 1024) (i : Fin 512) :
    Layout.blockN ⟨3, ![2, 1024, 512]⟩ ⟨3, ![8, 1024, 512]⟩ (Layout.meshBlock [2, 4, 4] ![[2], [], []] c) v h (ix3 l k i) = v (ix3 (num c l) k i) := by
  rw [Layout.blockN_apply]
  congr 1
  funext b; apply Fin.ext
  rw [Layout.TilesN.idx_val]
  match b with
  | ⟨0, _⟩ => show Layout.meshLin [2, 4, 4] c.val [2] * 2 + l.val = c.val % 4 * 2 + l.val; rw [lin_eq]
  | ⟨1, _⟩ => show 0 * 1024 + k.val = k.val; omega
  | ⟨2, _⟩ => show 0 * 512 + i.val = i.val; omega

/-- Where the devices' blocks are parts of whole arrays, the kernel's result at one place is the output of the expert the
    token's code names, and zero if it names none. -/
theorem outV_whole (B : Blocks Ideal) (x : FVec Ideal Cert.ReferenceIdeal.S2048x512 .f32) (a : IVec Cert.ReferenceIdeal.S2048 32)
    (w1 : FVec Ideal Cert.ReferenceIdeal.S8x512x1024 .f32) (w2 : FVec Ideal Cert.ReferenceIdeal.S8x1024x512 .f32)
    (hx : ∀ c t i, B.x c (ix2 t i) = x (ix2 (row c t) i)) (ha : ∀ c t, B.a c (ix1 t) = a (ix1 (row c t)))
    (hw1 : ∀ c l k h, B.w1 c (ix3 l k h) = w1 (ix3 (num c l) k h)) (hw2 : ∀ c l h i, B.w2 c (ix3 l h i) = w2 (ix3 (num c l) h i))
    (c : Dev nD) (hf : Fits (B.a c)) (t i : Fin 512) :
    outV B c (ix2 t i) = if h8 : (a (ix1 (row c t))).toNat < 8 then Cert.ReferenceIdeal.Whole.expert w1 w2 ⟨(a (ix1 (row c t))).toNat, h8⟩ (fun k => x (ix2 (row c t) k)) i else 0 := by
  by_cases h8 : (a (ix1 (row c t))).toNat < 8
  case neg => rw [dif_neg h8]; exact outV_off B c hf t i (by rw [ha]; exact h8)
  rw [dif_pos h8, outV_at B c hf t i (by rw [ha]; exact h8)]
  unfold expert Cert.ReferenceIdeal.Whole.expert
  have hn : num (peer c (toPeer (B.a c) t)) (toHalf (B.a c) t) = ⟨(a (ix1 (row c t))).toNat, h8⟩ := by
    apply Fin.ext
    show (zof (peer c (toPeer (B.a c) t))).val * 2 + (toHalf (B.a c) t).val = _
    rw [zof_peer]
    show (B.a c (ix1 t)).toNat / 2 % 4 * 2 + (B.a c (ix1 t)).toNat % 2 = (a (ix1 (row c t))).toNat
    rw [ha]; omega
  simp only [hw1, hw2, hx, hn]

/-- The kernel and the reference agree: each device ends with its part of the reference's result. -/
theorem agree : Cert.algebraic_KernelIdeal_ReferenceIdeal_pre_fits_KernelIdeal := by
  intro m g m' g' hpre hblk
  refine ⟨Cert.ReferenceIdeal.Value.res_main_v96 m' 0, ?_, ?_⟩
  · refine (θ_run defs _ _).mono (fun r h c => ⟨(h.1 c).1.trans ?_, (h.1 c).2⟩) (run_values m g)
    have hf : ∀ d : Dev nD, Fits ((Bl m).a d) := fun d => by rw [Bl_a]; exact fits_of_pre _ _ _ _ (hpre d)
    funext y
    obtain ⟨t, i, rfl⟩ : ∃ t i : Fin 512, y = ix2 t i := ⟨y 0, y 1,
      (ValueIdx.eq_ix2 (n0 := 512) (n1 := 512) y).trans (ix2_eq_valueIdx (n0 := 512) (n1 := 512) (y 0) (y 1)).symm⟩
    rw [part_x]
    have ha : ∀ d t, (Bl m).a d (ix1 t) = (m' (((0 : Dev Cert.ReferenceIdeal.nD).tc : Thread Cert.ReferenceIdeal.nD Cert.ReferenceIdeal.τ).loc Cert.ReferenceIdeal.main_arg1) : IVec Cert.ReferenceIdeal.S2048 32) (ix1 (row d t)) := fun d t => by
      rw [Bl_a, (hblk d).2.1]; exact part_a d _ _ t
    refine (outV_whole (Bl m) _ _ _ _ ?_ ha ?_ ?_ c (hf c) t i).trans
      (Cert.ReferenceIdeal.Whole.out_at m' 0 _ _ _ _ rfl rfl rfl rfl (row c t) i).symm
    · intro d t i; rw [Bl_x, (hblk d).1]; exact part_x d _ _ t i
    · intro d l k h; rw [Bl_w1, (hblk d).2.2.1]; exact part_w1 d _ _ l k h
    · intro d l k h; rw [Bl_w2, (hblk d).2.2.2]; exact part_w2 d _ _ l k h
  · exact (θ_run Cert.ReferenceIdeal.defs _ _).mono (fun _ h => h 0) (Cert.ReferenceIdeal.Value.run (F := Ideal) m' g')

/-- Under the precondition too, the kernel runs to the end and leaves its arguments alone. -/
theorem frame_kernel_pre : Cert.quiescent_KernelIdeal_pre_fits_KernelIdeal := fun m g _ => frame_kernelIdeal m g trivial

/-- Under the precondition too, the reference runs to the end and leaves its arguments alone. -/
theorem frame_reference_pre : Cert.quiescent_ReferenceIdeal_pre_fits_ReferenceIdeal := fun m g _ => frame_reference m g trivial

end Cert.KernelIdeal.Exch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Pre_fits_KernelIdeal.shapes, Cert.Pre_fits_ReferenceIdeal.shapes,
  Cert.KernelIdeal.Exch.frame_kernel, Cert.KernelIdeal.Exch.frame_kernelIdeal, Cert.KernelIdeal.Exch.frame_kernel_pre,
  Cert.KernelIdeal.Exch.frame_reference, Cert.KernelIdeal.Exch.frame_reference_pre, trivial, Cert.KernelIdeal.Exch.agree⟩

end Cert.Proof

end
